-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S8192x256 : Shape := ⟨2, ![8192, 256]⟩
abbrev S2048x256 : Shape := ⟨2, ![2048, 256]⟩
abbrev S3x2048x256 : Shape := ⟨3, ![3, 2048, 256]⟩
abbrev S3x512x256 : Shape := ⟨3, ![3, 512, 256]⟩
abbrev S3 : Shape := ⟨1, ![3]⟩
abbrev S_ : Shape := ⟨0, ![]⟩
abbrev S1 : Shape := ⟨1, ![1]⟩
abbrev S2048x512 : Shape := ⟨2, ![2048, 512]⟩
abbrev S1x2048x256 : Shape := ⟨3, ![1, 2048, 256]⟩
abbrev S1x512x256 : Shape := ⟨3, ![1, 512, 256]⟩

abbrev nBuf : Space → Nat
  | .hbm => 8
  | .vmem => 13
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S8192x256, .f32⟩
  | .local _ .vmem, ⟨0, _⟩ => ⟨S512x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S8192x256, .f32⟩
  | .local _ .vmem, ⟨8, _⟩ => ⟨S8192x256, .bf16⟩
  | .local _ .vmem, ⟨9, _⟩ => ⟨S8192x256, .bf16⟩
  | .local _ .vmem, ⟨10, _⟩ => ⟨S2048x256, .bf16⟩
  | .local _ .vmem, ⟨11, _⟩ => ⟨S3x2048x256, .bf16⟩
  | .local _ .vmem, ⟨12, _⟩ => ⟨S3x512x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v6 : BitVec 32 := Scalar.muli c4_i32_1 v4
  let c4_i32 : BitVec 32 := 4#32
  let v3 : BitVec 32 := Scalar.remsi v2 c4_i32
  let c1_i32_2 : BitVec 32 := 1#32
  let v7 : BitVec 32 := Scalar.addi v3 c1_i32_2
  let c4_i32_3 : BitVec 32 := 4#32
  let v8 : BitVec 32 := Scalar.remsi v7 c4_i32_3
  let v9 : BitVec 32 := Scalar.addi v6 v8
  let c1_i32_8 : BitVec 32 := 1#32
  let v14 : BitVec 32 := Scalar.muli v9 c1_i32_8
  let v15 : BitVec 32 := Scalar.addi c0_i32 v14
  v15.toNat
def k0_dev2 (d0 : Dev nD) : Nat :=
  let c0_i32_11 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_4 : BitVec 32 := 1#32
  let v10 : BitVec 32 := Scalar.addi v4 c1_i32_4
  let c4_i32_5 : BitVec 32 := 4#32
  let v11 : BitVec 32 := Scalar.remsi v10 c4_i32_5
  let v12 : BitVec 32 := Scalar.muli c4_i32_6 v11
  let c4_i32 : BitVec 32 := 4#32
  let v3 : BitVec 32 := Scalar.remsi v2 c4_i32
  let v13 : BitVec 32 := Scalar.addi v12 v3
  let c1_i32_10 : BitVec 32 := 1#32
  let v16 : BitVec 32 := Scalar.muli v13 c1_i32_10
  let v17 : BitVec 32 := Scalar.addi c0_i32_11 v16
  v17.toNat
def k0_dev3 (d0 : Dev nD) : Nat :=
  let c0_i32_19 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v18 : BitVec 32 := Scalar.muli c4_i32_12 v4
  let c4_i32 : BitVec 32 := 4#32
  let v3 : BitVec 32 := Scalar.remsi v2 c4_i32
  let c2_i32 : BitVec 32 := 2#32
  let v19 : BitVec 32 := Scalar.addi v3 c2_i32
  let c4_i32_13 : BitVec 32 := 4#32
  let v20 : BitVec 32 := Scalar.remsi v19 c4_i32_13
  let v21 : BitVec 32 := Scalar.addi v18 v20
  let c1_i32_18 : BitVec 32 := 1#32
  let v26 : BitVec 32 := Scalar.muli v21 c1_i32_18
  let v27 : BitVec 32 := Scalar.addi c0_i32_19 v26
  v27.toNat
def k0_dev4 (d0 : Dev nD) : Nat :=
  let c0_i32_22 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_14 : BitVec 32 := 2#32
  let v22 : BitVec 32 := Scalar.addi v4 c2_i32_14
  let c4_i32_15 : BitVec 32 := 4#32
  let v23 : BitVec 32 := Scalar.remsi v22 c4_i32_15
  let v24 : BitVec 32 := Scalar.muli c4_i32_16 v23
  let c4_i32 : BitVec 32 := 4#32
  let v3 : BitVec 32 := Scalar.remsi v2 c4_i32
  let v25 : BitVec 32 := Scalar.addi v24 v3
  let c1_i32_21 : BitVec 32 := 1#32
  let v28 : BitVec 32 := Scalar.muli v25 c1_i32_21
  let v29 : BitVec 32 := Scalar.addi c0_i32_22 v28
  v29.toNat
def k0_dev5 (d0 : Dev nD) : Nat :=
  let c0_i32_30 : BitVec 32 := 0#32
  let c4_i32_23 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v30 : BitVec 32 := Scalar.muli c4_i32_23 v4
  let c4_i32 : BitVec 32 := 4#32
  let v3 : BitVec 32 := Scalar.remsi v2 c4_i32
  let c3_i32 : BitVec 32 := 3#32
  let v31 : BitVec 32 := Scalar.addi v3 c3_i32
  let c4_i32_24 : BitVec 32 := 4#32
  let v32 : BitVec 32 := Scalar.remsi v31 c4_i32_24
  let v33 : BitVec 32 := Scalar.addi v30 v32
  let c1_i32_29 : BitVec 32 := 1#32
  let v38 : BitVec 32 := Scalar.muli v33 c1_i32_29
  let v39 : BitVec 32 := Scalar.addi c0_i32_30 v38
  v39.toNat
def k0_dev6 (d0 : Dev nD) : Nat :=
  let c0_i32_33 : BitVec 32 := 0#32
  let c4_i32_27 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_25 : BitVec 32 := 3#32
  let v34 : BitVec 32 := Scalar.addi v4 c3_i32_25
  let c4_i32_26 : BitVec 32 := 4#32
  let v35 : BitVec 32 := Scalar.remsi v34 c4_i32_26
  let v36 : BitVec 32 := Scalar.muli c4_i32_27 v35
  let c4_i32 : BitVec 32 := 4#32
  let v3 : BitVec 32 := Scalar.remsi v2 c4_i32
  let v37 : BitVec 32 := Scalar.addi v36 v3
  let c1_i32_32 : BitVec 32 := 1#32
  let v40 : BitVec 32 := Scalar.muli v37 c1_i32_32
  let v41 : BitVec 32 := Scalar.addi c0_i32_33 v40
  v41.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2048_i32 : BitVec 32 := 2048#32
  let v42 : BitVec 32 := Scalar.muli v3 c2048_i32
  let c4_i32_0 : BitVec 32 := 4#32
  let v4 : BitVec 32 := Scalar.divsi v2 c4_i32_0
  let c512_i32 : BitVec 32 := 512#32
  let v43 : BitVec 32 := Scalar.muli v4 c512_i32
  let v44 : BitVec 32 := Scalar.addi v42 v43
  let v47 : Index := Scalar.indexCast v44
  let c0_35 : Index := 0#32
  ![v47.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2048_i32_36 : BitVec 32 := 2048#32
  let v51 : BitVec 32 := Scalar.muli v3 c2048_i32_36
  let c4_i32_0 : BitVec 32 := 4#32
  let v4 : BitVec 32 := Scalar.divsi v2 c4_i32_0
  let c512_i32_37 : BitVec 32 := 512#32
  let v52 : BitVec 32 := Scalar.muli v4 c512_i32_37
  let v53 : BitVec 32 := Scalar.addi v51 v52
  let c0_i32_45 : BitVec 32 := 0#32
  ![v53.toNat, 0]
def k0_dev7 (d0 : Dev nD) : Nat :=
  let c0_i32_44 : BitVec 32 := 0#32
  let c4_i32_40 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_38 : BitVec 32 := 1#32
  let v54 : BitVec 32 := Scalar.addi v4 c1_i32_38
  let c4_i32_39 : BitVec 32 := 4#32
  let v55 : BitVec 32 := Scalar.remsi v54 c4_i32_39
  let v56 : BitVec 32 := Scalar.muli c4_i32_40 v55
  let c4_i32 : BitVec 32 := 4#32
  let v3 : BitVec 32 := Scalar.remsi v2 c4_i32
  let v57 : BitVec 32 := Scalar.addi v56 v3
  let c1_i32_43 : BitVec 32 := 1#32
  let v58 : BitVec 32 := Scalar.muli v57 c1_i32_43
  let v59 : BitVec 32 := Scalar.addi c0_i32_44 v58
  v59.toNat
def k0_dev8 (d0 : Dev nD) : Nat :=
  let c0_i32_53 : BitVec 32 := 0#32
  let c4_i32_49 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_47 : BitVec 32 := 2#32
  let v66 : BitVec 32 := Scalar.addi v4 c2_i32_47
  let c4_i32_48 : BitVec 32 := 4#32
  let v67 : BitVec 32 := Scalar.remsi v66 c4_i32_48
  let v68 : BitVec 32 := Scalar.muli c4_i32_49 v67
  let c4_i32 : BitVec 32 := 4#32
  let v3 : BitVec 32 := Scalar.remsi v2 c4_i32
  let v69 : BitVec 32 := Scalar.addi v68 v3
  let c1_i32_52 : BitVec 32 := 1#32
  let v70 : BitVec 32 := Scalar.muli v69 c1_i32_52
  let v71 : BitVec 32 := Scalar.addi c0_i32_53 v70
  v71.toNat
def k0_dev9 (d0 : Dev nD) : Nat :=
  let c0_i32_62 : BitVec 32 := 0#32
  let c4_i32_58 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_56 : BitVec 32 := 3#32
  let v78 : BitVec 32 := Scalar.addi v4 c3_i32_56
  let c4_i32_57 : BitVec 32 := 4#32
  let v79 : BitVec 32 := Scalar.remsi v78 c4_i32_57
  let v80 : BitVec 32 := Scalar.muli c4_i32_58 v79
  let c4_i32 : BitVec 32 := 4#32
  let v3 : BitVec 32 := Scalar.remsi v2 c4_i32
  let v81 : BitVec 32 := Scalar.addi v80 v3
  let c1_i32_61 : BitVec 32 := 1#32
  let v82 : BitVec 32 := Scalar.muli v81 c1_i32_61
  let v83 : BitVec 32 := Scalar.addi c0_i32_62 v82
  v83.toNat
def k0_off3 (d0 : Dev nD) (c1_i32_65 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2048_i32_67 : BitVec 32 := 2048#32
  let v92 : BitVec 32 := Scalar.muli v3 c2048_i32_67
  let c4_i32_0 : BitVec 32 := 4#32
  let v4 : BitVec 32 := Scalar.divsi v2 c4_i32_0
  let v90 : BitVec 32 := Scalar.addi v4 c1_i32_65
  let c4_i32_66 : BitVec 32 := 4#32
  let v91 : BitVec 32 := Scalar.remsi v90 c4_i32_66
  let c512_i32_68 : BitVec 32 := 512#32
  let v93 : BitVec 32 := Scalar.muli v91 c512_i32_68
  let v94 : BitVec 32 := Scalar.addi v92 v93
  let c0_i32_73 : BitVec 32 := 0#32
  ![v94.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2048_i32_114 : BitVec 32 := 2048#32
  let v140 : BitVec 32 := Scalar.muli v3 c2048_i32_114
  let c0_i32_119 : BitVec 32 := 0#32
  ![v140.toNat, 0]
def k0_dev10 (d0 : Dev nD) : Nat :=
  let c0_i32_118 : BitVec 32 := 0#32
  let c4_i32_110 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v135 : BitVec 32 := Scalar.muli c4_i32_110 v4
  let c4_i32 : BitVec 32 := 4#32
  let v3 : BitVec 32 := Scalar.remsi v2 c4_i32
  let c1_i32_111 : BitVec 32 := 1#32
  let v136 : BitVec 32 := Scalar.addi v3 c1_i32_111
  let c4_i32_112 : BitVec 32 := 4#32
  let v137 : BitVec 32 := Scalar.remsi v136 c4_i32_112
  let v138 : BitVec 32 := Scalar.addi v135 v137
  let c1_i32_117 : BitVec 32 := 1#32
  let v141 : BitVec 32 := Scalar.muli v138 c1_i32_117
  let v142 : BitVec 32 := Scalar.addi c0_i32_118 v141
  v142.toNat
def k0_dev11 (d0 : Dev nD) : Nat :=
  let c0_i32_129 : BitVec 32 := 0#32
  let c4_i32_121 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v149 : BitVec 32 := Scalar.muli c4_i32_121 v4
  let c4_i32 : BitVec 32 := 4#32
  let v3 : BitVec 32 := Scalar.remsi v2 c4_i32
  let c2_i32_122 : BitVec 32 := 2#32
  let v150 : BitVec 32 := Scalar.addi v3 c2_i32_122
  let c4_i32_123 : BitVec 32 := 4#32
  let v151 : BitVec 32 := Scalar.remsi v150 c4_i32_123
  let v152 : BitVec 32 := Scalar.addi v149 v151
  let c1_i32_128 : BitVec 32 := 1#32
  let v155 : BitVec 32 := Scalar.muli v152 c1_i32_128
  let v156 : BitVec 32 := Scalar.addi c0_i32_129 v155
  v156.toNat
def k0_dev12 (d0 : Dev nD) : Nat :=
  let c0_i32_140 : BitVec 32 := 0#32
  let c4_i32_132 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v163 : BitVec 32 := Scalar.muli c4_i32_132 v4
  let c4_i32 : BitVec 32 := 4#32
  let v3 : BitVec 32 := Scalar.remsi v2 c4_i32
  let c3_i32_133 : BitVec 32 := 3#32
  let v164 : BitVec 32 := Scalar.addi v3 c3_i32_133
  let c4_i32_134 : BitVec 32 := 4#32
  let v165 : BitVec 32 := Scalar.remsi v164 c4_i32_134
  let v166 : BitVec 32 := Scalar.addi v163 v165
  let c1_i32_139 : BitVec 32 := 1#32
  let v169 : BitVec 32 := Scalar.muli v166 c1_i32_139
  let v170 : BitVec 32 := Scalar.addi c0_i32_140 v169
  v170.toNat
def k0_off5 (d0 : Dev nD) (c1_i32_143 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v177 : BitVec 32 := Scalar.addi v3 c1_i32_143
  let c4_i32_144 : BitVec 32 := 4#32
  let v178 : BitVec 32 := Scalar.remsi v177 c4_i32_144
  let c2048_i32_146 : BitVec 32 := 2048#32
  let v180 : BitVec 32 := Scalar.muli v178 c2048_i32_146
  let c0_i32_151 : BitVec 32 := 0#32
  ![v180.toNat, 0]
def k0_dev13 (d0 : Dev nD) : Nat :=
  let c0_i32_224 : BitVec 32 := 0#32
  let c4_i32_218 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v265 : BitVec 32 := Scalar.muli c4_i32_218 v4
  let c4_i32 : BitVec 32 := 4#32
  let v3 : BitVec 32 := Scalar.remsi v2 c4_i32
  let c1_i32_216 : BitVec 32 := 1#32
  let v263 : BitVec 32 := Scalar.addi v3 c1_i32_216
  let c4_i32_217 : BitVec 32 := 4#32
  let v264 : BitVec 32 := Scalar.remsi v263 c4_i32_217
  let v266 : BitVec 32 := Scalar.addi v265 v264
  let c1_i32_223 : BitVec 32 := 1#32
  let v268 : BitVec 32 := Scalar.muli v266 c1_i32_223
  let v269 : BitVec 32 := Scalar.addi c0_i32_224 v268
  v269.toNat
def k0_dev14 (d0 : Dev nD) : Nat :=
  let c0_i32_236 : BitVec 32 := 0#32
  let c4_i32_230 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v279 : BitVec 32 := Scalar.muli c4_i32_230 v4
  let c4_i32 : BitVec 32 := 4#32
  let v3 : BitVec 32 := Scalar.remsi v2 c4_i32
  let c2_i32_228 : BitVec 32 := 2#32
  let v277 : BitVec 32 := Scalar.addi v3 c2_i32_228
  let c4_i32_229 : BitVec 32 := 4#32
  let v278 : BitVec 32 := Scalar.remsi v277 c4_i32_229
  let v280 : BitVec 32 := Scalar.addi v279 v278
  let c1_i32_235 : BitVec 32 := 1#32
  let v282 : BitVec 32 := Scalar.muli v280 c1_i32_235
  let v283 : BitVec 32 := Scalar.addi c0_i32_236 v282
  v283.toNat
def k0_dev15 (d0 : Dev nD) : Nat :=
  let c0_i32_248 : BitVec 32 := 0#32
  let c4_i32_242 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v293 : BitVec 32 := Scalar.muli c4_i32_242 v4
  let c4_i32 : BitVec 32 := 4#32
  let v3 : BitVec 32 := Scalar.remsi v2 c4_i32
  let c3_i32_240 : BitVec 32 := 3#32
  let v291 : BitVec 32 := Scalar.addi v3 c3_i32_240
  let c4_i32_241 : BitVec 32 := 4#32
  let v292 : BitVec 32 := Scalar.remsi v291 c4_i32_241
  let v294 : BitVec 32 := Scalar.addi v293 v292
  let c1_i32_247 : BitVec 32 := 1#32
  let v296 : BitVec 32 := Scalar.muli v294 c1_i32_247
  let v297 : BitVec 32 := Scalar.addi c0_i32_248 v296
  v297.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2048_i32_303 : BitVec 32 := 2048#32
  let v344 : BitVec 32 := Scalar.muli v3 c2048_i32_303
  let v345 : Index := Scalar.indexCast v344
  let c0_304 : Index := 0#32
  ![v345.toNat, 0]
def k0_off7 (d0 : Dev nD) (c1_i32_314 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v364 : BitVec 32 := Scalar.addi v4 c1_i32_314
  let c4_i32_315 : BitVec 32 := 4#32
  let v365 : BitVec 32 := Scalar.remsi v364 c4_i32_315
  let c512_i32_317 : BitVec 32 := 512#32
  let v368 : BitVec 32 := Scalar.muli v365 c512_i32_317
  let c0_i32_325 : BitVec 32 := 0#32
  ![v368.toNat, 0]
def k0_dev16 (d0 : Dev nD) : Nat :=
  let c0_i32_322 : BitVec 32 := 0#32
  let c4_i32_316 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_314 : BitVec 32 := 1#32
  let v364 : BitVec 32 := Scalar.addi v4 c1_i32_314
  let c4_i32_315 : BitVec 32 := 4#32
  let v365 : BitVec 32 := Scalar.remsi v364 c4_i32_315
  let v366 : BitVec 32 := Scalar.muli c4_i32_316 v365
  let c4_i32 : BitVec 32 := 4#32
  let v3 : BitVec 32 := Scalar.remsi v2 c4_i32
  let v367 : BitVec 32 := Scalar.addi v366 v3
  let c1_i32_321 : BitVec 32 := 1#32
  let v369 : BitVec 32 := Scalar.muli v367 c1_i32_321
  let v370 : BitVec 32 := Scalar.addi c0_i32_322 v369
  v370.toNat
def k0_dev17 (d0 : Dev nD) : Nat :=
  let c0_i32_334 : BitVec 32 := 0#32
  let c4_i32_328 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_326 : BitVec 32 := 2#32
  let v378 : BitVec 32 := Scalar.addi v4 c2_i32_326
  let c4_i32_327 : BitVec 32 := 4#32
  let v379 : BitVec 32 := Scalar.remsi v378 c4_i32_327
  let v380 : BitVec 32 := Scalar.muli c4_i32_328 v379
  let c4_i32 : BitVec 32 := 4#32
  let v3 : BitVec 32 := Scalar.remsi v2 c4_i32
  let v381 : BitVec 32 := Scalar.addi v380 v3
  let c1_i32_333 : BitVec 32 := 1#32
  let v383 : BitVec 32 := Scalar.muli v381 c1_i32_333
  let v384 : BitVec 32 := Scalar.addi c0_i32_334 v383
  v384.toNat
def k0_dev18 (d0 : Dev nD) : Nat :=
  let c0_i32_346 : BitVec 32 := 0#32
  let c4_i32_340 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_338 : BitVec 32 := 3#32
  let v392 : BitVec 32 := Scalar.addi v4 c3_i32_338
  let c4_i32_339 : BitVec 32 := 4#32
  let v393 : BitVec 32 := Scalar.remsi v392 c4_i32_339
  let v394 : BitVec 32 := Scalar.muli c4_i32_340 v393
  let c4_i32 : BitVec 32 := 4#32
  let v3 : BitVec 32 := Scalar.remsi v2 c4_i32
  let v395 : BitVec 32 := Scalar.addi v394 v3
  let c1_i32_345 : BitVec 32 := 1#32
  let v397 : BitVec 32 := Scalar.muli v395 c1_i32_345
  let v398 : BitVec 32 := Scalar.addi c0_i32_346 v397
  v398.toNat
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c512_i32_401 : BitVec 32 := 512#32
  let v445 : BitVec 32 := Scalar.muli v4 c512_i32_401
  let v446 : Index := Scalar.indexCast v445
  let c0_402 : Index := 0#32
  ![v446.toNat, 0]
def k0_dev19 (d0 : Dev nD) : Nat :=
  let c0_i32_421 : BitVec 32 := 0#32
  let c4_i32_417 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_415 : BitVec 32 := 1#32
  let v469 : BitVec 32 := Scalar.addi v4 c1_i32_415
  let c4_i32_416 : BitVec 32 := 4#32
  let v470 : BitVec 32 := Scalar.remsi v469 c4_i32_416
  let v471 : BitVec 32 := Scalar.muli c4_i32_417 v470
  let c4_i32 : BitVec 32 := 4#32
  let v3 : BitVec 32 := Scalar.remsi v2 c4_i32
  let v472 : BitVec 32 := Scalar.addi v471 v3
  let c1_i32_420 : BitVec 32 := 1#32
  let v473 : BitVec 32 := Scalar.muli v472 c1_i32_420
  let v474 : BitVec 32 := Scalar.addi c0_i32_421 v473
  v474.toNat
def k0_dev20 (d0 : Dev nD) : Nat :=
  let c0_i32_430 : BitVec 32 := 0#32
  let c4_i32_426 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_424 : BitVec 32 := 2#32
  let v481 : BitVec 32 := Scalar.addi v4 c2_i32_424
  let c4_i32_425 : BitVec 32 := 4#32
  let v482 : BitVec 32 := Scalar.remsi v481 c4_i32_425
  let v483 : BitVec 32 := Scalar.muli c4_i32_426 v482
  let c4_i32 : BitVec 32 := 4#32
  let v3 : BitVec 32 := Scalar.remsi v2 c4_i32
  let v484 : BitVec 32 := Scalar.addi v483 v3
  let c1_i32_429 : BitVec 32 := 1#32
  let v485 : BitVec 32 := Scalar.muli v484 c1_i32_429
  let v486 : BitVec 32 := Scalar.addi c0_i32_430 v485
  v486.toNat
def k0_dev21 (d0 : Dev nD) : Nat :=
  let c0_i32_439 : BitVec 32 := 0#32
  let c4_i32_435 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_433 : BitVec 32 := 3#32
  let v493 : BitVec 32 := Scalar.addi v4 c3_i32_433
  let c4_i32_434 : BitVec 32 := 4#32
  let v494 : BitVec 32 := Scalar.remsi v493 c4_i32_434
  let v495 : BitVec 32 := Scalar.muli c4_i32_435 v494
  let c4_i32 : BitVec 32 := 4#32
  let v3 : BitVec 32 := Scalar.remsi v2 c4_i32
  let v496 : BitVec 32 := Scalar.addi v495 v3
  let c1_i32_438 : BitVec 32 := 1#32
  let v497 : BitVec 32 := Scalar.muli v496 c1_i32_438
  let v498 : BitVec 32 := Scalar.addi c0_i32_439 v497
  v498.toNat
def k0_dev22 (d0 : Dev nD) : Nat :=
  let c0_i32_495 : BitVec 32 := 0#32
  let c4_i32_487 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v550 : BitVec 32 := Scalar.muli c4_i32_487 v4
  let c4_i32 : BitVec 32 := 4#32
  let v3 : BitVec 32 := Scalar.remsi v2 c4_i32
  let c1_i32_488 : BitVec 32 := 1#32
  let v551 : BitVec 32 := Scalar.addi v3 c1_i32_488
  let c4_i32_489 : BitVec 32 := 4#32
  let v552 : BitVec 32 := Scalar.remsi v551 c4_i32_489
  let v553 : BitVec 32 := Scalar.addi v550 v552
  let c1_i32_494 : BitVec 32 := 1#32
  let v556 : BitVec 32 := Scalar.muli v553 c1_i32_494
  let v557 : BitVec 32 := Scalar.addi c0_i32_495 v556
  v557.toNat
def k0_dev23 (d0 : Dev nD) : Nat :=
  let c0_i32_506 : BitVec 32 := 0#32
  let c4_i32_498 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v564 : BitVec 32 := Scalar.muli c4_i32_498 v4
  let c4_i32 : BitVec 32 := 4#32
  let v3 : BitVec 32 := Scalar.remsi v2 c4_i32
  let c2_i32_499 : BitVec 32 := 2#32
  let v565 : BitVec 32 := Scalar.addi v3 c2_i32_499
  let c4_i32_500 : BitVec 32 := 4#32
  let v566 : BitVec 32 := Scalar.remsi v565 c4_i32_500
  let v567 : BitVec 32 := Scalar.addi v564 v566
  let c1_i32_505 : BitVec 32 := 1#32
  let v570 : BitVec 32 := Scalar.muli v567 c1_i32_505
  let v571 : BitVec 32 := Scalar.addi c0_i32_506 v570
  v571.toNat
def k0_dev24 (d0 : Dev nD) : Nat :=
  let c0_i32_517 : BitVec 32 := 0#32
  let c4_i32_509 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v578 : BitVec 32 := Scalar.muli c4_i32_509 v4
  let c4_i32 : BitVec 32 := 4#32
  let v3 : BitVec 32 := Scalar.remsi v2 c4_i32
  let c3_i32_510 : BitVec 32 := 3#32
  let v579 : BitVec 32 := Scalar.addi v3 c3_i32_510
  let c4_i32_511 : BitVec 32 := 4#32
  let v580 : BitVec 32 := Scalar.remsi v579 c4_i32_511
  let v581 : BitVec 32 := Scalar.addi v578 v580
  let c1_i32_516 : BitVec 32 := 1#32
  let v584 : BitVec 32 := Scalar.muli v581 c1_i32_516
  let v585 : BitVec 32 := Scalar.addi c0_i32_517 v584
  v585.toNat
def k0_dev25 (d0 : Dev nD) : Nat :=
  let c0_i32_605 : BitVec 32 := 0#32
  let c4_i32_599 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v680 : BitVec 32 := Scalar.muli c4_i32_599 v4
  let c4_i32 : BitVec 32 := 4#32
  let v3 : BitVec 32 := Scalar.remsi v2 c4_i32
  let c1_i32_597 : BitVec 32 := 1#32
  let v678 : BitVec 32 := Scalar.addi v3 c1_i32_597
  let c4_i32_598 : BitVec 32 := 4#32
  let v679 : BitVec 32 := Scalar.remsi v678 c4_i32_598
  let v681 : BitVec 32 := Scalar.addi v680 v679
  let c1_i32_604 : BitVec 32 := 1#32
  let v683 : BitVec 32 := Scalar.muli v681 c1_i32_604
  let v684 : BitVec 32 := Scalar.addi c0_i32_605 v683
  v684.toNat
def k0_dev26 (d0 : Dev nD) : Nat :=
  let c0_i32_617 : BitVec 32 := 0#32
  let c4_i32_611 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v694 : BitVec 32 := Scalar.muli c4_i32_611 v4
  let c4_i32 : BitVec 32 := 4#32
  let v3 : BitVec 32 := Scalar.remsi v2 c4_i32
  let c2_i32_609 : BitVec 32 := 2#32
  let v692 : BitVec 32 := Scalar.addi v3 c2_i32_609
  let c4_i32_610 : BitVec 32 := 4#32
  let v693 : BitVec 32 := Scalar.remsi v692 c4_i32_610
  let v695 : BitVec 32 := Scalar.addi v694 v693
  let c1_i32_616 : BitVec 32 := 1#32
  let v697 : BitVec 32 := Scalar.muli v695 c1_i32_616
  let v698 : BitVec 32 := Scalar.addi c0_i32_617 v697
  v698.toNat
def k0_dev27 (d0 : Dev nD) : Nat :=
  let c0_i32_629 : BitVec 32 := 0#32
  let c4_i32_623 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v708 : BitVec 32 := Scalar.muli c4_i32_623 v4
  let c4_i32 : BitVec 32 := 4#32
  let v3 : BitVec 32 := Scalar.remsi v2 c4_i32
  let c3_i32_621 : BitVec 32 := 3#32
  let v706 : BitVec 32 := Scalar.addi v3 c3_i32_621
  let c4_i32_622 : BitVec 32 := 4#32
  let v707 : BitVec 32 := Scalar.remsi v706 c4_i32_622
  let v709 : BitVec 32 := Scalar.addi v708 v707
  let c1_i32_628 : BitVec 32 := 1#32
  let v711 : BitVec 32 := Scalar.muli v709 c1_i32_628
  let v712 : BitVec 32 := Scalar.addi c0_i32_629 v711
  v712.toNat
def k0_dev28 (d0 : Dev nD) : Nat :=
  let c0_i32_705 : BitVec 32 := 0#32
  let c4_i32_699 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_697 : BitVec 32 := 1#32
  let v779 : BitVec 32 := Scalar.addi v4 c1_i32_697
  let c4_i32_698 : BitVec 32 := 4#32
  let v780 : BitVec 32 := Scalar.remsi v779 c4_i32_698
  let v781 : BitVec 32 := Scalar.muli c4_i32_699 v780
  let c4_i32 : BitVec 32 := 4#32
  let v3 : BitVec 32 := Scalar.remsi v2 c4_i32
  let v782 : BitVec 32 := Scalar.addi v781 v3
  let c1_i32_704 : BitVec 32 := 1#32
  let v784 : BitVec 32 := Scalar.muli v782 c1_i32_704
  let v785 : BitVec 32 := Scalar.addi c0_i32_705 v784
  v785.toNat
def k0_dev29 (d0 : Dev nD) : Nat :=
  let c0_i32_717 : BitVec 32 := 0#32
  let c4_i32_711 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_709 : BitVec 32 := 2#32
  let v793 : BitVec 32 := Scalar.addi v4 c2_i32_709
  let c4_i32_710 : BitVec 32 := 4#32
  let v794 : BitVec 32 := Scalar.remsi v793 c4_i32_710
  let v795 : BitVec 32 := Scalar.muli c4_i32_711 v794
  let c4_i32 : BitVec 32 := 4#32
  let v3 : BitVec 32 := Scalar.remsi v2 c4_i32
  let v796 : BitVec 32 := Scalar.addi v795 v3
  let c1_i32_716 : BitVec 32 := 1#32
  let v798 : BitVec 32 := Scalar.muli v796 c1_i32_716
  let v799 : BitVec 32 := Scalar.addi c0_i32_717 v798
  v799.toNat
def k0_dev30 (d0 : Dev nD) : Nat :=
  let c0_i32_729 : BitVec 32 := 0#32
  let c4_i32_723 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_721 : BitVec 32 := 3#32
  let v807 : BitVec 32 := Scalar.addi v4 c3_i32_721
  let c4_i32_722 : BitVec 32 := 4#32
  let v808 : BitVec 32 := Scalar.remsi v807 c4_i32_722
  let v809 : BitVec 32 := Scalar.muli c4_i32_723 v808
  let c4_i32 : BitVec 32 := 4#32
  let v3 : BitVec 32 := Scalar.remsi v2 c4_i32
  let v810 : BitVec 32 := Scalar.addi v809 v3
  let c1_i32_728 : BitVec 32 := 1#32
  let v812 : BitVec 32 := Scalar.muli v810 c1_i32_728
  let v813 : BitVec 32 := Scalar.addi c0_i32_729 v812
  v813.toNat
def k0_dev31 (d0 : Dev nD) : Nat :=
  let c0_i32_804 : BitVec 32 := 0#32
  let c4_i32_800 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_798 : BitVec 32 := 1#32
  let v884 : BitVec 32 := Scalar.addi v4 c1_i32_798
  let c4_i32_799 : BitVec 32 := 4#32
  let v885 : BitVec 32 := Scalar.remsi v884 c4_i32_799
  let v886 : BitVec 32 := Scalar.muli c4_i32_800 v885
  let c4_i32 : BitVec 32 := 4#32
  let v3 : BitVec 32 := Scalar.remsi v2 c4_i32
  let v887 : BitVec 32 := Scalar.addi v886 v3
  let c1_i32_803 : BitVec 32 := 1#32
  let v888 : BitVec 32 := Scalar.muli v887 c1_i32_803
  let v889 : BitVec 32 := Scalar.addi c0_i32_804 v888
  v889.toNat
def k0_dev32 (d0 : Dev nD) : Nat :=
  let c0_i32_813 : BitVec 32 := 0#32
  let c4_i32_809 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_807 : BitVec 32 := 2#32
  let v896 : BitVec 32 := Scalar.addi v4 c2_i32_807
  let c4_i32_808 : BitVec 32 := 4#32
  let v897 : BitVec 32 := Scalar.remsi v896 c4_i32_808
  let v898 : BitVec 32 := Scalar.muli c4_i32_809 v897
  let c4_i32 : BitVec 32 := 4#32
  let v3 : BitVec 32 := Scalar.remsi v2 c4_i32
  let v899 : BitVec 32 := Scalar.addi v898 v3
  let c1_i32_812 : BitVec 32 := 1#32
  let v900 : BitVec 32 := Scalar.muli v899 c1_i32_812
  let v901 : BitVec 32 := Scalar.addi c0_i32_813 v900
  v901.toNat
def k0_dev33 (d0 : Dev nD) : Nat :=
  let c0_i32_822 : BitVec 32 := 0#32
  let c4_i32_818 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_816 : BitVec 32 := 3#32
  let v908 : BitVec 32 := Scalar.addi v4 c3_i32_816
  let c4_i32_817 : BitVec 32 := 4#32
  let v909 : BitVec 32 := Scalar.remsi v908 c4_i32_817
  let v910 : BitVec 32 := Scalar.muli c4_i32_818 v909
  let c4_i32 : BitVec 32 := 4#32
  let v3 : BitVec 32 := Scalar.remsi v2 c4_i32
  let v911 : BitVec 32 := Scalar.addi v910 v3
  let c1_i32_821 : BitVec 32 := 1#32
  let v912 : BitVec 32 := Scalar.muli v911 c1_i32_821
  let v913 : BitVec 32 := Scalar.addi c0_i32_822 v912
  v913.toNat
def k0_dev34 (d0 : Dev nD) : Nat :=
  let c0_i32_878 : BitVec 32 := 0#32
  let c4_i32_870 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v965 : BitVec 32 := Scalar.muli c4_i32_870 v4
  let c4_i32 : BitVec 32 := 4#32
  let v3 : BitVec 32 := Scalar.remsi v2 c4_i32
  let c1_i32_871 : BitVec 32 := 1#32
  let v966 : BitVec 32 := Scalar.addi v3 c1_i32_871
  let c4_i32_872 : BitVec 32 := 4#32
  let v967 : BitVec 32 := Scalar.remsi v966 c4_i32_872
  let v968 : BitVec 32 := Scalar.addi v965 v967
  let c1_i32_877 : BitVec 32 := 1#32
  let v971 : BitVec 32 := Scalar.muli v968 c1_i32_877
  let v972 : BitVec 32 := Scalar.addi c0_i32_878 v971
  v972.toNat
def k0_dev35 (d0 : Dev nD) : Nat :=
  let c0_i32_889 : BitVec 32 := 0#32
  let c4_i32_881 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v979 : BitVec 32 := Scalar.muli c4_i32_881 v4
  let c4_i32 : BitVec 32 := 4#32
  let v3 : BitVec 32 := Scalar.remsi v2 c4_i32
  let c2_i32_882 : BitVec 32 := 2#32
  let v980 : BitVec 32 := Scalar.addi v3 c2_i32_882
  let c4_i32_883 : BitVec 32 := 4#32
  let v981 : BitVec 32 := Scalar.remsi v980 c4_i32_883
  let v982 : BitVec 32 := Scalar.addi v979 v981
  let c1_i32_888 : BitVec 32 := 1#32
  let v985 : BitVec 32 := Scalar.muli v982 c1_i32_888
  let v986 : BitVec 32 := Scalar.addi c0_i32_889 v985
  v986.toNat
def k0_dev36 (d0 : Dev nD) : Nat :=
  let c0_i32_900 : BitVec 32 := 0#32
  let c4_i32_892 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v993 : BitVec 32 := Scalar.muli c4_i32_892 v4
  let c4_i32 : BitVec 32 := 4#32
  let v3 : BitVec 32 := Scalar.remsi v2 c4_i32
  let c3_i32_893 : BitVec 32 := 3#32
  let v994 : BitVec 32 := Scalar.addi v3 c3_i32_893
  let c4_i32_894 : BitVec 32 := 4#32
  let v995 : BitVec 32 := Scalar.remsi v994 c4_i32_894
  let v996 : BitVec 32 := Scalar.addi v993 v995
  let c1_i32_899 : BitVec 32 := 1#32
  let v999 : BitVec 32 := Scalar.muli v996 c1_i32_899
  let v1000 : BitVec 32 := Scalar.addi c0_i32_900 v999
  v1000.toNat
def k0_dev37 (d0 : Dev nD) : Nat :=
  let c0_i32_988 : BitVec 32 := 0#32
  let c4_i32_982 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v1095 : BitVec 32 := Scalar.muli c4_i32_982 v4
  let c4_i32 : BitVec 32 := 4#32
  let v3 : BitVec 32 := Scalar.remsi v2 c4_i32
  let c1_i32_980 : BitVec 32 := 1#32
  let v1093 : BitVec 32 := Scalar.addi v3 c1_i32_980
  let c4_i32_981 : BitVec 32 := 4#32
  let v1094 : BitVec 32 := Scalar.remsi v1093 c4_i32_981
  let v1096 : BitVec 32 := Scalar.addi v1095 v1094
  let c1_i32_987 : BitVec 32 := 1#32
  let v1098 : BitVec 32 := Scalar.muli v1096 c1_i32_987
  let v1099 : BitVec 32 := Scalar.addi c0_i32_988 v1098
  v1099.toNat
def k0_dev38 (d0 : Dev nD) : Nat :=
  let c0_i32_1000 : BitVec 32 := 0#32
  let c4_i32_994 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v1109 : BitVec 32 := Scalar.muli c4_i32_994 v4
  let c4_i32 : BitVec 32 := 4#32
  let v3 : BitVec 32 := Scalar.remsi v2 c4_i32
  let c2_i32_992 : BitVec 32 := 2#32
  let v1107 : BitVec 32 := Scalar.addi v3 c2_i32_992
  let c4_i32_993 : BitVec 32 := 4#32
  let v1108 : BitVec 32 := Scalar.remsi v1107 c4_i32_993
  let v1110 : BitVec 32 := Scalar.addi v1109 v1108
  let c1_i32_999 : BitVec 32 := 1#32
  let v1112 : BitVec 32 := Scalar.muli v1110 c1_i32_999
  let v1113 : BitVec 32 := Scalar.addi c0_i32_1000 v1112
  v1113.toNat
def k0_dev39 (d0 : Dev nD) : Nat :=
  let c0_i32_1012 : BitVec 32 := 0#32
  let c4_i32_1006 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v1123 : BitVec 32 := Scalar.muli c4_i32_1006 v4
  let c4_i32 : BitVec 32 := 4#32
  let v3 : BitVec 32 := Scalar.remsi v2 c4_i32
  let c3_i32_1004 : BitVec 32 := 3#32
  let v1121 : BitVec 32 := Scalar.addi v3 c3_i32_1004
  let c4_i32_1005 : BitVec 32 := 4#32
  let v1122 : BitVec 32 := Scalar.remsi v1121 c4_i32_1005
  let v1124 : BitVec 32 := Scalar.addi v1123 v1122
  let c1_i32_1011 : BitVec 32 := 1#32
  let v1126 : BitVec 32 := Scalar.muli v1124 c1_i32_1011
  let v1127 : BitVec 32 := Scalar.addi c0_i32_1012 v1126
  v1127.toNat
def k0_dev40 (d0 : Dev nD) : Nat :=
  let c0_i32_1088 : BitVec 32 := 0#32
  let c4_i32_1082 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_1080 : BitVec 32 := 1#32
  let v1194 : BitVec 32 := Scalar.addi v4 c1_i32_1080
  let c4_i32_1081 : BitVec 32 := 4#32
  let v1195 : BitVec 32 := Scalar.remsi v1194 c4_i32_1081
  let v1196 : BitVec 32 := Scalar.muli c4_i32_1082 v1195
  let c4_i32 : BitVec 32 := 4#32
  let v3 : BitVec 32 := Scalar.remsi v2 c4_i32
  let v1197 : BitVec 32 := Scalar.addi v1196 v3
  let c1_i32_1087 : BitVec 32 := 1#32
  let v1199 : BitVec 32 := Scalar.muli v1197 c1_i32_1087
  let v1200 : BitVec 32 := Scalar.addi c0_i32_1088 v1199
  v1200.toNat
def k0_dev41 (d0 : Dev nD) : Nat :=
  let c0_i32_1100 : BitVec 32 := 0#32
  let c4_i32_1094 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_1092 : BitVec 32 := 2#32
  let v1208 : BitVec 32 := Scalar.addi v4 c2_i32_1092
  let c4_i32_1093 : BitVec 32 := 4#32
  let v1209 : BitVec 32 := Scalar.remsi v1208 c4_i32_1093
  let v1210 : BitVec 32 := Scalar.muli c4_i32_1094 v1209
  let c4_i32 : BitVec 32 := 4#32
  let v3 : BitVec 32 := Scalar.remsi v2 c4_i32
  let v1211 : BitVec 32 := Scalar.addi v1210 v3
  let c1_i32_1099 : BitVec 32 := 1#32
  let v1213 : BitVec 32 := Scalar.muli v1211 c1_i32_1099
  let v1214 : BitVec 32 := Scalar.addi c0_i32_1100 v1213
  v1214.toNat
def k0_dev42 (d0 : Dev nD) : Nat :=
  let c0_i32_1112 : BitVec 32 := 0#32
  let c4_i32_1106 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_1104 : BitVec 32 := 3#32
  let v1222 : BitVec 32 := Scalar.addi v4 c3_i32_1104
  let c4_i32_1105 : BitVec 32 := 4#32
  let v1223 : BitVec 32 := Scalar.remsi v1222 c4_i32_1105
  let v1224 : BitVec 32 := Scalar.muli c4_i32_1106 v1223
  let c4_i32 : BitVec 32 := 4#32
  let v3 : BitVec 32 := Scalar.remsi v2 c4_i32
  let v1225 : BitVec 32 := Scalar.addi v1224 v3
  let c1_i32_1111 : BitVec 32 := 1#32
  let v1227 : BitVec 32 := Scalar.muli v1225 c1_i32_1111
  let v1228 : BitVec 32 := Scalar.addi c0_i32_1112 v1227
  v1228.toNat
def k0_dev43 (d0 : Dev nD) : Nat :=
  let c0_i32_1187 : BitVec 32 := 0#32
  let c4_i32_1183 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_1181 : BitVec 32 := 1#32
  let v1299 : BitVec 32 := Scalar.addi v4 c1_i32_1181
  let c4_i32_1182 : BitVec 32 := 4#32
  let v1300 : BitVec 32 := Scalar.remsi v1299 c4_i32_1182
  let v1301 : BitVec 32 := Scalar.muli c4_i32_1183 v1300
  let c4_i32 : BitVec 32 := 4#32
  let v3 : BitVec 32 := Scalar.remsi v2 c4_i32
  let v1302 : BitVec 32 := Scalar.addi v1301 v3
  let c1_i32_1186 : BitVec 32 := 1#32
  let v1303 : BitVec 32 := Scalar.muli v1302 c1_i32_1186
  let v1304 : BitVec 32 := Scalar.addi c0_i32_1187 v1303
  v1304.toNat
def k0_dev44 (d0 : Dev nD) : Nat :=
  let c0_i32_1196 : BitVec 32 := 0#32
  let c4_i32_1192 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_1190 : BitVec 32 := 2#32
  let v1311 : BitVec 32 := Scalar.addi v4 c2_i32_1190
  let c4_i32_1191 : BitVec 32 := 4#32
  let v1312 : BitVec 32 := Scalar.remsi v1311 c4_i32_1191
  let v1313 : BitVec 32 := Scalar.muli c4_i32_1192 v1312
  let c4_i32 : BitVec 32 := 4#32
  let v3 : BitVec 32 := Scalar.remsi v2 c4_i32
  let v1314 : BitVec 32 := Scalar.addi v1313 v3
  let c1_i32_1195 : BitVec 32 := 1#32
  let v1315 : BitVec 32 := Scalar.muli v1314 c1_i32_1195
  let v1316 : BitVec 32 := Scalar.addi c0_i32_1196 v1315
  v1316.toNat
def k0_dev45 (d0 : Dev nD) : Nat :=
  let c0_i32_1205 : BitVec 32 := 0#32
  let c4_i32_1201 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_1199 : BitVec 32 := 3#32
  let v1323 : BitVec 32 := Scalar.addi v4 c3_i32_1199
  let c4_i32_1200 : BitVec 32 := 4#32
  let v1324 : BitVec 32 := Scalar.remsi v1323 c4_i32_1200
  let v1325 : BitVec 32 := Scalar.muli c4_i32_1201 v1324
  let c4_i32 : BitVec 32 := 4#32
  let v3 : BitVec 32 := Scalar.remsi v2 c4_i32
  let v1326 : BitVec 32 := Scalar.addi v1325 v3
  let c1_i32_1204 : BitVec 32 := 1#32
  let v1327 : BitVec 32 := Scalar.muli v1326 c1_i32_1204
  let v1328 : BitVec 32 := Scalar.addi c0_i32_1205 v1327
  v1328.toNat
def k0_dev46 (d0 : Dev nD) : Nat :=
  let c0_i32_1261 : BitVec 32 := 0#32
  let c4_i32_1253 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v1380 : BitVec 32 := Scalar.muli c4_i32_1253 v4
  let c4_i32 : BitVec 32 := 4#32
  let v3 : BitVec 32 := Scalar.remsi v2 c4_i32
  let c1_i32_1254 : BitVec 32 := 1#32
  let v1381 : BitVec 32 := Scalar.addi v3 c1_i32_1254
  let c4_i32_1255 : BitVec 32 := 4#32
  let v1382 : BitVec 32 := Scalar.remsi v1381 c4_i32_1255
  let v1383 : BitVec 32 := Scalar.addi v1380 v1382
  let c1_i32_1260 : BitVec 32 := 1#32
  let v1386 : BitVec 32 := Scalar.muli v1383 c1_i32_1260
  let v1387 : BitVec 32 := Scalar.addi c0_i32_1261 v1386
  v1387.toNat
def k0_dev47 (d0 : Dev nD) : Nat :=
  let c0_i32_1272 : BitVec 32 := 0#32
  let c4_i32_1264 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v1394 : BitVec 32 := Scalar.muli c4_i32_1264 v4
  let c4_i32 : BitVec 32 := 4#32
  let v3 : BitVec 32 := Scalar.remsi v2 c4_i32
  let c2_i32_1265 : BitVec 32 := 2#32
  let v1395 : BitVec 32 := Scalar.addi v3 c2_i32_1265
  let c4_i32_1266 : BitVec 32 := 4#32
  let v1396 : BitVec 32 := Scalar.remsi v1395 c4_i32_1266
  let v1397 : BitVec 32 := Scalar.addi v1394 v1396
  let c1_i32_1271 : BitVec 32 := 1#32
  let v1400 : BitVec 32 := Scalar.muli v1397 c1_i32_1271
  let v1401 : BitVec 32 := Scalar.addi c0_i32_1272 v1400
  v1401.toNat
def k0_dev48 (d0 : Dev nD) : Nat :=
  let c0_i32_1283 : BitVec 32 := 0#32
  let c4_i32_1275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v1408 : BitVec 32 := Scalar.muli c4_i32_1275 v4
  let c4_i32 : BitVec 32 := 4#32
  let v3 : BitVec 32 := Scalar.remsi v2 c4_i32
  let c3_i32_1276 : BitVec 32 := 3#32
  let v1409 : BitVec 32 := Scalar.addi v3 c3_i32_1276
  let c4_i32_1277 : BitVec 32 := 4#32
  let v1410 : BitVec 32 := Scalar.remsi v1409 c4_i32_1277
  let v1411 : BitVec 32 := Scalar.addi v1408 v1410
  let c1_i32_1282 : BitVec 32 := 1#32
  let v1414 : BitVec 32 := Scalar.muli v1411 c1_i32_1282
  let v1415 : BitVec 32 := Scalar.addi c0_i32_1283 v1414
  v1415.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x8192, .bf16⟩
  | .hbm, ⟨2, _⟩ => ⟨S256x8192, .bf16⟩
  | .hbm, ⟨3, _⟩ => ⟨S256x8192, .bf16⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8192x8192, .f32⟩
  | .hbm, ⟨8, _⟩ => ⟨S8192x8192, .bf16⟩
  | .hbm, ⟨9, _⟩ => ⟨S_, .bf16⟩
  | .hbm, ⟨10, _⟩ => ⟨S8192x8192, .bf16⟩
  | .hbm, ⟨11, _⟩ => ⟨S8192x8192, .bf16⟩
  | .hbm, ⟨12, _⟩ => ⟨S8192x256, .f32⟩
  | .hbm, ⟨13, _⟩ => ⟨S8192x256, .bf16⟩
  | .hbm, ⟨14, _⟩ => ⟨S8192x8192, .f32⟩
  | .hbm, ⟨15, _⟩ => ⟨S8192x8192, .bf16⟩
  | .hbm, ⟨16, _⟩ => ⟨S_, .bf16⟩
  | .hbm, ⟨17, _⟩ => ⟨S8192x8192, .bf16⟩
  | .hbm, ⟨18, _⟩ => ⟨S8192x8192, .bf16⟩
  | .hbm, ⟨19, _⟩ => ⟨S8192x256, .f32⟩
  | .hbm, ⟨20, _⟩ => ⟨S8192x256, .bf16⟩
  | .hbm, ⟨21, _⟩ => ⟨S8192x8192, .f32⟩
  | .hbm, ⟨22, _⟩ => ⟨S8192x8192, .bf16⟩
  | .hbm, ⟨23, _⟩ => ⟨S_, .bf16⟩
  | .hbm, ⟨24, _⟩ => ⟨S8192x8192, .bf16⟩
  | .hbm, ⟨25, _⟩ => ⟨S8192x8192, .bf16⟩
  | .hbm, ⟨26, _⟩ => ⟨S8192x256, .f32⟩
  | .hbm, ⟨27, _⟩ => ⟨S8192x256, .bf16⟩
  | .hbm, ⟨28, _⟩ => ⟨S8192x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Rows.lean ====
module

public import Idealize.ShloMosaic.Lib.Memref
public import Idealize.ShloMosaic.Lib.Rounds
public import Idealize.ShloMosaic.Lib.Pipeline.Launch
public import Idealize.ShloMosaic.Lib.Pipeline.Kit
public import Idealize.ShloMosaic.Lib.Tactic

/-! # Owning bands of rows

Every buffer of the kernel is a stack of rows of 256 numbers, held in bands: a band cut into bands of equal
height, bands joined to the band they make, a load and a store inside a band, and a band's three read shares. -/

@[expose] public section

noncomputable section

namespace Cert.Rows

open Idealize.ShloMosaic
open Idealize.SL Idealize.SL.RA Idealize.SL.BI
open scoped Idealize.SL.BI
open Idealize.SL.BI.BIBase Idealize.SL.BI.Laws Idealize.SL.ProofMode Idealize.SL.Sem

/-! ## Stacks of rows -/

/-- `n` rows of 256. -/
abbrev R (n : ℕ) : Shape := ⟨2, ![n, 256]⟩

/-- The entry of row `i` and column `j`. -/
abbrev at2 {n : ℕ} (i : Fin n) (j : Fin 256) : (R n).Idx := fun a => match a with
  | ⟨0, _⟩ => i
  | ⟨1, _⟩ => j

/-- An entry is named by its row and its column. -/
theorem idx_ext {n : ℕ} {i j : (R n).Idx} (h0 : (i 0).val = (j 0).val) (h1 : (i 1).val = (j 1).val) : i = j := by
  funext a
  match a with
  | ⟨0, _⟩ => exact Fin.ext h0
  | ⟨1, _⟩ => exact Fin.ext h1

/-- `k` bands of `n` rows, one above the other. -/
def tall {α : Type} {k n N : ℕ} (h : k * n = N) (v : Fin k → (R n).Idx → α) : (R N).Idx → α := fun i =>
  v ⟨(i 0).val / n, Nat.div_lt_of_lt_mul (by rw [Nat.mul_comm, h]; exact (i 0).isLt)⟩
    (at2 ⟨(i 0).val % n, Nat.mod_lt _ (Nat.pos_of_ne_zero fun e => by
      have := (i 0).isLt; have h' : N = 0 := by rw [← h, e, Nat.mul_zero]
      exact absurd (show (i 0).val < N from (i 0).isLt) (by omega))⟩ (i 1))

/-- Row `n j + y` of the stack is row `y` of band `j`. -/
theorem tall_at {α : Type} {k n N : ℕ} (h : k * n = N) (v : Fin k → (R n).Idx → α) (j : Fin k) (y : (R n).Idx) (i : (R N).Idx)
    (h0 : (i 0).val = n * j.val + (y 0).val) (h1 : (i 1).val = (y 1).val) : tall h v i = v j y := by
  have hy : (y 0).val < n := (y 0).isLt
  have hj : (⟨(i 0).val / n, Nat.div_lt_of_lt_mul (by rw [Nat.mul_comm, h]; exact (i 0).isLt)⟩ : Fin k) = j :=
    Fin.ext (by show (i 0).val / n = j.val; rw [h0, Nat.mul_add_div (by omega), Nat.div_eq_of_lt hy, Nat.add_zero])
  unfold tall
  rw [hj]
  refine congrArg (v j) (idx_ext ?_ ?_)
  · show (i 0).val % n = (y 0).val
    rw [h0, Nat.mul_add_mod, Nat.mod_eq_of_lt hy]
  · exact h1

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- Two contents read alike through a memref are alike where it lies. -/
theorem pts_congr (c : Thread nD τ) {sp : Space} {sh : Shape} {e : EltTy} (m : Memref sig c.2.kind sp sh e) (q : PosShare TreeShare)
    (f g : m.view.ty.Contents Val) (h : m.view.read Val f = m.view.read Val g) :
    (m.view.loc c ↦[m.view.set]{q} f : sProp 𝕄) = (m.view.loc c ↦[m.view.set]{q} g) :=
  pointsTo_congr fun i hi => by
    rw [View.set, Finset.mem_map] at hi
    obtain ⟨x, -, rfl⟩ := hi
    exact (cast_inj _).mp (congrFun h x)

/-- Two memrefs of one buffer that place every index alike are owned alike. -/
theorem owns_of_emb (c : Thread nD τ) {sp : Space} {sh : Shape} {e : EltTy} (v v' : Memref sig c.2.kind sp sh e) (q : PosShare TreeShare) (X : sh.Idx → Val e)
    (S S' : Finset (Idx (v.view.loc c))) (hset : S = S') (P P' : Buf Val (v.view.loc c) → Prop) (hP : ∀ f, P f ↔ P' f) :
    (iprop(∃ f, ⌜P f⌝ ∗ (v.view.loc c ↦[S]{q} f)) : sProp 𝕄) = iprop(∃ f, ⌜P' f⌝ ∗ (v.view.loc c ↦[S']{q} f)) := by
  subst hset
  rw [show P = P' from funext fun f => propext (hP f)]

/-- Rows `off` to `off + n` of a buffer of `N` rows. -/
abbrev rows {κ : Kind} {sp : Space} {e : EltTy} {N : ℕ} (m : Memref sig κ sp (R N) e) (n off : ℕ)
    (h : ∀ a, (![off, 0] : Fin 2 → ℕ) a + (R n).size a ≤ (R N).size a) : Memref sig κ sp (R n) e :=
  m.slice (Rect.unit (s := R N) ![off, 0] (R n).size h) (fun _ => rfl)

theorem inb {N n off : ℕ} (h : off + n ≤ N) : ∀ a, (![off, 0] : Fin 2 → ℕ) a + (R n).size a ≤ (R N).size a
  | ⟨0, _⟩ => h
  | ⟨1, _⟩ => Nat.le_refl _

section Cut

variable (c : Thread nD τ) {sp : Space} {e : EltTy} (q : PosShare TreeShare)

/-- The bands of a band are disjoint … -/
theorem bands_disjoint {k n N : ℕ} (hN : k * n = N) (hb : ∀ j : Fin k, ∀ a, (![n * j.val, 0] : Fin 2 → ℕ) a + (R n).size a ≤ (R N).size a) (t t' : Fin k) (h : t ≠ t') :
    Disjoint (Rect.unit (s := R N) ![n * t.val, 0] (R n).size (hb t)).set (Rect.unit (s := R N) ![n * t'.val, 0] (R n).size (hb t')).set := by
  rw [Finset.disjoint_left]
  intro i hi hi'
  have h1 := Rect.mem_set_unit.mp hi 0
  have h2 := Rect.mem_set_unit.mp hi' 0
  obtain ⟨a1, a2⟩ : n * t.val ≤ (i 0).val ∧ (i 0).val < n * t.val + n := h1
  obtain ⟨b1, b2⟩ : n * t'.val ≤ (i 0).val ∧ (i 0).val < n * t'.val + n := h2
  apply h
  apply Fin.ext
  rcases Nat.lt_trichotomy t.val t'.val with hl | hl | hl
  · have := Nat.mul_le_mul_left n (Nat.succ_le_of_lt hl); rw [Nat.mul_succ] at this; omega
  · exact hl
  · have := Nat.mul_le_mul_left n (Nat.succ_le_of_lt hl); rw [Nat.mul_succ] at this; omega

/-- … and make it up. -/
theorem bands_cover {k n N : ℕ} (hN : k * n = N) (hb : ∀ j : Fin k, ∀ a, (![n * j.val, 0] : Fin 2 → ℕ) a + (R n).size a ≤ (R N).size a) :
    (Finset.univ : Finset (Fin k)).biUnion (fun t => (Rect.unit (s := R N) ![n * t.val, 0] (R n).size (hb t)).set) = Finset.univ := by
  ext i
  refine ⟨fun _ => Finset.mem_univ _, fun _ => ?_⟩
  have hi : (i 0).val < k * n := by rw [hN]; exact (i 0).isLt
  have hn : 0 < n := Nat.pos_of_ne_zero fun e => by rw [e, Nat.mul_zero] at hi; omega
  refine Finset.mem_biUnion.mpr ⟨⟨(i 0).val / n, Nat.div_lt_of_lt_mul (by rwa [Nat.mul_comm])⟩, Finset.mem_univ _, Rect.mem_set_unit.mpr fun a => ?_⟩
  match a with
  | ⟨0, _⟩ =>
    show n * ((i 0).val / n) ≤ (i 0).val ∧ (i 0).val < n * ((i 0).val / n) + n
    have := Nat.div_add_mod (i 0).val n; have := Nat.mod_lt (i 0).val hn
    omega
  | ⟨1, _⟩ => exact ⟨Nat.zero_le _, by show (i 1).val < 0 + 256; rw [Nat.zero_add]; exact (i 1).isLt⟩

/-- A memref of `k n` rows is its `k` bands of `n`. -/
theorem cut [∀ e, Nonempty (Val e)] {k n N : ℕ} (hN : k * n = N) (m : Memref sig c.2.kind sp (R N) e) (hb : ∀ j : Fin k, ∀ a, (![n * j.val, 0] : Fin 2 → ℕ) a + (R n).size a ≤ (R N).size a)
    (v : Fin k → (R n).Idx → Val e) :
    (owns c m q (tall hN v) : sProp 𝕄) = bigSep Finset.univ fun j : Fin k => owns c (rows m n (n * j.val) (hb j)) q (v j) := by
  have hv : (fun j : Fin k => (owns c (rows m n (n * j.val) (hb j)) q (v j) : sProp 𝕄))
      = fun j => owns c (m.slice (Rect.unit (s := R N) ![n * j.val, 0] (R n).size (hb j)) (fun _ => rfl)) q (fun y => tall hN v ((Rect.unit (s := R N) ![n * j.val, 0] (R n).size (hb j)).emb y)) := by
    funext j
    refine congrArg (owns c _ q) (funext fun y => ?_)
    symm
    refine tall_at hN v j y _ ?_ ?_
    · show n * j.val + 1 * (y 0).val = _; rw [Nat.one_mul]
    · show 0 + 1 * (y 1).val = _; rw [Nat.one_mul, Nat.zero_add]
  rw [hv]
  exact BI.equiv_iff.mp
    ⟨owns_rects c m q (fun j : Fin k => Rect.unit (s := R N) ![n * j.val, 0] (R n).size (hb j)) (fun _ _ => rfl) (bands_disjoint hN hb) (bands_cover hN hb) _,
     owns_of_rects c m q (fun j : Fin k => Rect.unit (s := R N) ![n * j.val, 0] (R n).size (hb j)) (fun _ _ => rfl) (bands_disjoint hN hb) (bands_cover hN hb) _⟩

/-- A band of a band is a band. -/
theorem rows_rows {N n n' off off' off'' : ℕ} (m : Memref sig c.2.kind sp (R N) e) (h h' h'') (ho : off + off' = off'') (X : (R n').Idx → Val e) :
    (owns c (rows (rows m n off h) n' off' h') q X : sProp 𝕄) = owns c (rows m n' off'' h'') q X := by
  have he (x : (R n').Idx) : (Rect.unit (s := R N) ![off, 0] (R n).size h).emb ((Rect.unit (s := R n) ![off', 0] (R n').size h').emb x)
      = (Rect.unit (s := R N) ![off'', 0] (R n').size h'').emb x := by
    refine idx_ext ?_ ?_
    · show off + 1 * (off' + 1 * (x 0).val) = off'' + 1 * (x 0).val; omega
    · show 0 + 1 * (0 + 1 * (x 1).val) = 0 + 1 * (x 1).val; omega
  unfold owns
  refine owns_of_emb c (rows m n' off'' h'') (rows m n' off'' h'') q X _ _ ?_ _ _ fun f => ?_
  · ext i
    simp only [View.set, Finset.mem_map, Finset.mem_univ, true_and]
    exact exists_congr fun x => by
      show m.view.emb _ = i ↔ m.view.emb _ = i
      rw [← he]
  · refine Eq.congr (funext fun x => ?_) rfl
    show m.view.read Val f _ = m.view.read Val f _
    rw [← he]

/-- So a band of `k n` rows is `k` bands of `n`. -/
theorem cut_rows [∀ e, Nonempty (Val e)] {k n N M off : ℕ} (hN : k * n = N) (m : Memref sig c.2.kind sp (R M) e) (h)
    (o : Fin k → ℕ) (ho : ∀ j, off + n * j.val = o j) (hb : ∀ j : Fin k, ∀ a, (![o j, 0] : Fin 2 → ℕ) a + (R n).size a ≤ (R M).size a)
    (v : Fin k → (R n).Idx → Val e) :
    (owns c (rows m N off h) q (tall hN v) : sProp 𝕄) = bigSep Finset.univ fun j : Fin k => owns c (rows m n (o j) (hb j)) q (v j) := by
  have hb' : ∀ j : Fin k, ∀ a, (![n * j.val, 0] : Fin 2 → ℕ) a + (R n).size a ≤ (R N).size a := fun j => inb (by
    have := Nat.mul_le_mul_left n (Nat.succ_le_of_lt j.isLt); rw [Nat.mul_succ, Nat.mul_comm n k, hN] at this; exact this)
  rw [cut c q hN (rows m N off h) hb' v]
  exact bigSep_congr fun j _ => rows_rows c q m h (hb' j) (hb j) (ho j) (v j)

/-- Bands at any contents make the band at some contents. -/
theorem join_rows_any [∀ e, Nonempty (Val e)] {k n N : ℕ} (hN : k * n = N) (m : Memref sig c.2.kind sp (R N) e) (hb : ∀ j : Fin k, ∀ a, (![n * j.val, 0] : Fin 2 → ℕ) a + (R n).size a ≤ (R N).size a) :
    (bigSep Finset.univ fun j : Fin k => iprop(∃ v, owns c (rows m n (n * j.val) (hb j)) q v)) ⊢ (iprop(∃ v, owns c m q v) : sProp 𝕄) := by
  iintro H
  ihave H' := (BI.bigSep_exists_pi Finset.univ (fun (j : Fin k) (v : (R n).Idx → Val e) => (owns c (rows m n (n * j.val) (hb j)) q v : sProp 𝕄))) $$ H
  icases H' with ⟨%v, H⟩
  iexists tall hN v
  rw [cut c q hN m hb v]
  iexact H

end Cut

/-! ## Shares -/

/-- The three read shares of a full one. -/
def third : Fin 3 → PosShare TreeShare := ![fullShare.left, fullShare.right.left, fullShare.right.right]

theorem owns_thirds (c : Thread nD τ) {sp : Space} {sh : Shape} {e : EltTy} (m : Memref sig c.2.kind sp sh e) (X : sh.Idx → Val e) :
    (owns c m fullShare X : sProp 𝕄) = bigSep Finset.univ fun j : Fin 3 => owns c m (third j) X := by
  rw [BI.bigSep_univ_eq_bigSepL [0, 1, 2] (by decide) (by decide)]
  show _ = iprop(owns c m fullShare.left X ∗ owns c m fullShare.right.left X ∗ owns c m fullShare.right.right X)
  refine BI.equiv_iff.mp ⟨show (_ : sProp 𝕄) ⊢ _ from ?_, show (_ : sProp 𝕄) ⊢ _ from ?_⟩
  · unfold owns
    iintro ⟨%f, %hf, H⟩
    ihave H' := (pointsTo_share (PosShare.mem_left_op_right fullShare)).1 $$ H
    icases H' with ⟨Hl, Hr⟩
    ihave H' := (pointsTo_share (PosShare.mem_left_op_right fullShare.right)).1 $$ Hr
    icases H' with ⟨Hrl, Hrr⟩
    isplitl [Hl]
    · iexists f; isplitr; · (ipureintro; exact hf)
      iexact Hl
    isplitl [Hrl]
    · iexists f; isplitr; · (ipureintro; exact hf)
      iexact Hrl
    iexists f; isplitr; · (ipureintro; exact hf)
    iexact Hrr
  · unfold owns
    iintro ⟨⟨%f, %hf, Hl⟩, ⟨%g, %hg, Hrl⟩, ⟨%g', %hg', Hrr⟩⟩
    iexists f; isplitr; · (ipureintro; exact hf)
    ihave Hrl := (Entails.of_eq (pts_congr c m _ g f (hg.trans hf.symm))) $$ Hrl
    ihave Hrr := (Entails.of_eq (pts_congr c m _ g' f (hg'.trans hf.symm))) $$ Hrr
    iapply (pointsTo_share (PosShare.mem_left_op_right fullShare)).2
    isplitl [Hl]; · iexact Hl
    iapply (pointsTo_share (PosShare.mem_left_op_right fullShare.right)).2
    isplitl [Hrl] <;> iassumption

/-- A squeezed memref is owned as the memref it squeezes. -/
theorem owns_squeeze (c : Thread nD τ) {sp : Space} {s s' : Shape} {e : EltTy} (m : Memref sig c.2.kind sp s e) (h : s.Squeezes s') (q : PosShare TreeShare)
    (X : s'.Idx → Val e) (Y : s.Idx → Val e) (hXY : ∀ x, X x = Y (Shape.reshapeEquiv h.numel_eq x)) :
    (owns c (m.squeeze s' h) q X : sProp 𝕄) = owns c m q Y := by
  have hset : (m.squeeze s' h).view.set = m.view.set := View.set_reshape _ _
  have hread (f : m.view.ty.Contents Val) : (m.squeeze s' h).view.read Val f = X ↔ m.view.read Val f = Y := by
    constructor
    · intro hf; funext y
      obtain ⟨x, rfl⟩ := (Shape.reshapeEquiv h.numel_eq).surjective y
      rw [← hXY, ← congrFun hf x]; rfl
    · intro hf; funext x
      rw [hXY, ← congrFun hf]; rfl
  unfold owns
  exact owns_of_emb c (m.squeeze s' h) (m.squeeze s' h) q X _ _ hset _ _ hread

/-- Slices at equal offsets are the same slice. -/
theorem slice_eq {κ : Kind} {sp : Space} {sh : Shape} {e : EltTy} (m : Memref sig κ sp sh e) {off off' size : Fin sh.rank → ℕ} (h : off = off') (i i') :
    m.slice (Rect.unit off size i) (fun _ => rfl) = m.slice (Rect.unit off' size i') (fun _ => rfl) := by subst h; rfl

/-! ## Parts of any contents -/

/-- Band `j` of a stack. -/
def band {α : Type} {k n N : ℕ} (h : k * n = N) (v : (R N).Idx → α) (j : Fin k) : (R n).Idx → α := fun y =>
  v (at2 ⟨n * j.val + (y 0).val, by
    have := Nat.mul_le_mul_left n (Nat.succ_le_of_lt j.isLt); rw [Nat.mul_succ, Nat.mul_comm n k, h] at this
    have : (y 0).val < n := (y 0).isLt
    omega⟩ (y 1))

theorem tall_band {α : Type} {k n N : ℕ} (h : k * n = N) (v : (R N).Idx → α) : tall h (band h v) = v := by
  funext i
  unfold tall band
  refine congrArg v (idx_ext ?_ rfl)
  exact Nat.div_add_mod _ _

theorem band_tall {α : Type} {k n N : ℕ} (h : k * n = N) (v : Fin k → (R n).Idx → α) (j : Fin k) : band h (tall h v) j = v j := by
  funext y
  exact tall_at h v j y _ rfl rfl

/-- A memref owned whole, whatever it holds. -/
def anyOf (c : Thread nD τ) {sp : Space} {sh : Shape} {e : EltTy} (m : Memref sig c.2.kind sp sh e) : sProp 𝕄 := iprop(∃ v, owns c m fullShare v)

theorem anyOf_intro (c : Thread nD τ) {sp : Space} {sh : Shape} {e : EltTy} (m : Memref sig c.2.kind sp sh e) (v : sh.Idx → Val e) :
    (owns c m fullShare v : sProp 𝕄) ⊢ anyOf c m := by unfold anyOf; iintro H; iexists v; iexact H

theorem any_cut [∀ e, Nonempty (Val e)] (c : Thread nD τ) {sp : Space} {e : EltTy} {k n N : ℕ} (hN : k * n = N) (m : Memref sig c.2.kind sp (R N) e)
    (hb : ∀ j : Fin k, ∀ a, (![n * j.val, 0] : Fin 2 → ℕ) a + (R n).size a ≤ (R N).size a) :
    (anyOf c m : sProp 𝕄) ⊢ bigSep Finset.univ fun j : Fin k => anyOf c (rows m n (n * j.val) (hb j)) := by
  unfold anyOf
  iintro ⟨%v, H⟩
  ihave H := (Entails.of_eq ((congrArg (owns c m fullShare) (tall_band hN v).symm).trans (cut c fullShare hN m hb (band hN v)))) $$ H
  have hm : (bigSep Finset.univ fun j : Fin k => (owns c (rows m n (n * j.val) (hb j)) fullShare (band hN v j) : sProp 𝕄))
      ⊢ bigSep Finset.univ fun j : Fin k => iprop(∃ v, owns c (rows m n (n * j.val) (hb j)) fullShare v) :=
    bigSep_mono fun j _ => anyOf_intro c _ _
  iapply hm
  iexact H

theorem any_cut_rows [∀ e, Nonempty (Val e)] (c : Thread nD τ) {sp : Space} {e : EltTy} {k n N M off : ℕ} (hN : k * n = N) (m : Memref sig c.2.kind sp (R M) e) (h)
    (o : Fin k → ℕ) (ho : ∀ j, off + n * j.val = o j) (hb : ∀ j : Fin k, ∀ a, (![o j, 0] : Fin 2 → ℕ) a + (R n).size a ≤ (R M).size a) :
    (anyOf c (rows m N off h) : sProp 𝕄) ⊢ bigSep Finset.univ fun j : Fin k => anyOf c (rows m n (o j) (hb j)) := by
  unfold anyOf
  iintro ⟨%v, H⟩
  ihave H := (Entails.of_eq ((congrArg (owns c (rows m N off h) fullShare) (tall_band hN v).symm).trans (cut_rows c fullShare hN m h o ho hb (band hN v)))) $$ H
  have hm : (bigSep Finset.univ fun j : Fin k => (owns c (rows m n (o j) (hb j)) fullShare (band hN v j) : sProp 𝕄))
      ⊢ bigSep Finset.univ fun j : Fin k => iprop(∃ v, owns c (rows m n (o j) (hb j)) fullShare v) :=
    bigSep_mono fun j _ => anyOf_intro c _ _
  iapply hm
  iexact H

/-- A memref's slice at the origin and of its own sizes is the memref. -/
theorem owns_full (c : Thread nD τ) {sp : Space} {s : Shape} {e : EltTy} (m : Memref sig c.2.kind sp s e) (q : PosShare TreeShare) {off : Fin s.rank → ℕ} (h0 : off = fun _ => 0)
    (h : ∀ a, off a + s.size a ≤ s.size a) (X : s.Idx → Val e) :
    (owns c (m.slice (Rect.unit (s := s) off s.size h) (fun _ => rfl)) q X : sProp 𝕄) = owns c m q X := by
  subst h0
  have he (x : s.Idx) : (Rect.unit (s := s) (fun _ => 0) s.size h).emb x = x := by
    funext a; exact Fin.ext (by show 0 + 1 * (x a).val = (x a).val; omega)
  unfold owns
  refine owns_of_emb c m m q X _ _ ?_ _ _ fun f => ?_
  · ext i
    simp only [View.set, Finset.mem_map, Finset.mem_univ, true_and]
    exact exists_congr fun x => by
      show m.view.emb _ = i ↔ m.view.emb _ = i
      rw [he]
  · refine Eq.congr (funext fun x => ?_) rfl
    show m.view.read Val f _ = m.view.read Val f _
    rw [he]

section Slots

/-- Three stacks of rows. -/
abbrev R3 (k n : ℕ) : Shape := ⟨3, ![k, n, 256]⟩

theorem slots_disjoint {n : ℕ} (hb : ∀ j : Fin 3, ∀ a, (![j.val, 0, 0] : Fin 3 → ℕ) a + (R3 1 n).size a ≤ (R3 3 n).size a) (t t' : Fin 3) (h : t ≠ t') :
    Disjoint (Rect.unit (s := R3 3 n) ![t.val, 0, 0] (R3 1 n).size (hb t)).set (Rect.unit (s := R3 3 n) ![t'.val, 0, 0] (R3 1 n).size (hb t')).set := by
  rw [Finset.disjoint_left]
  intro i hi hi'
  obtain ⟨a1, a2⟩ : t.val ≤ (i 0).val ∧ (i 0).val < t.val + 1 := Rect.mem_set_unit.mp hi 0
  obtain ⟨b1, b2⟩ : t'.val ≤ (i 0).val ∧ (i 0).val < t'.val + 1 := Rect.mem_set_unit.mp hi' 0
  exact h (Fin.ext (by omega))

theorem slots_cover {n : ℕ} (hb : ∀ j : Fin 3, ∀ a, (![j.val, 0, 0] : Fin 3 → ℕ) a + (R3 1 n).size a ≤ (R3 3 n).size a) :
    (Finset.univ : Finset (Fin 3)).biUnion (fun t => (Rect.unit (s := R3 3 n) ![t.val, 0, 0] (R3 1 n).size (hb t)).set) = Finset.univ := by
  ext i
  refine ⟨fun _ => Finset.mem_univ _, fun _ => Finset.mem_biUnion.mpr ⟨⟨(i 0).val, (i 0).isLt⟩, Finset.mem_univ _, Rect.mem_set_unit.mpr fun a => ?_⟩⟩
  match a with
  | ⟨0, _⟩ => exact ⟨Nat.le_refl _, Nat.lt_succ_self _⟩
  | ⟨1, _⟩ => exact ⟨Nat.zero_le _, by show (i 1).val < 0 + n; rw [Nat.zero_add]; exact (i 1).isLt⟩
  | ⟨2, _⟩ => exact ⟨Nat.zero_le _, by show (i 2).val < 0 + 256; rw [Nat.zero_add]; exact (i 2).isLt⟩

/-- Dropping an axis of one changes no contents. -/
theorem any_squeeze (c : Thread nD τ) {sp : Space} {s s' : Shape} {e : EltTy} (m : Memref sig c.2.kind sp s e) (h : s.Squeezes s') :
    (anyOf c (m.squeeze s' h) : sProp 𝕄) = anyOf c m := by
  unfold anyOf
  refine BI.equiv_iff.mp ⟨show (_ : sProp 𝕄) ⊢ _ from ?_, show (_ : sProp 𝕄) ⊢ _ from ?_⟩
  · iintro ⟨%v, H⟩
    iexists fun y => v ((Shape.reshapeEquiv h.numel_eq).symm y)
    iapply (Entails.of_eq (owns_squeeze c m h fullShare v _ fun x => by rw [Equiv.symm_apply_apply])) $$ H
  · iintro ⟨%v, H⟩
    iexists (fun x => v (Shape.reshapeEquiv h.numel_eq x))
    iapply (Entails.of_eq (owns_squeeze c m h fullShare _ v fun x => rfl).symm) $$ H

/-- A buffer of three stacks, whatever it holds, is its three stacks, whatever they hold. -/
theorem any_slots [∀ e, Nonempty (Val e)] (c : Thread nD τ) {sp : Space} {e : EltTy} {n : ℕ} (m : Memref sig c.2.kind sp (R3 3 n) e)
    (hb : ∀ j : Fin 3, ∀ a, (![j.val, 0, 0] : Fin 3 → ℕ) a + (R3 1 n).size a ≤ (R3 3 n).size a) :
    (anyOf c m : sProp 𝕄) = bigSep Finset.univ fun j : Fin 3 => anyOf c (m.slice (Rect.unit (s := R3 3 n) ![j.val, 0, 0] (R3 1 n).size (hb j)) (fun _ => rfl)) := by
  refine BI.equiv_iff.mp ⟨show (_ : sProp 𝕄) ⊢ _ from ?_, show (_ : sProp 𝕄) ⊢ _ from ?_⟩
  · unfold anyOf
    iintro ⟨%v, H⟩
    have hm := (owns_rects c m fullShare (fun j : Fin 3 => Rect.unit (s := R3 3 n) ![j.val, 0, 0] (R3 1 n).size (hb j)) (fun _ _ => rfl) (slots_disjoint hb) (slots_cover hb) v
      : (owns c m fullShare v : sProp 𝕄) ⊢ _).trans (bigSep_mono fun j _ => anyOf_intro c _ _)
    iapply hm
    iexact H
  · unfold anyOf
    iintro H
    ihave H' := (BI.bigSep_exists_pi Finset.univ (fun (j : Fin 3) (v : (Rect.unit (s := R3 3 n) ![j.val, 0, 0] (R3 1 n).size (hb j)).shape.Idx → Val e) =>
      (owns c (m.slice (Rect.unit (s := R3 3 n) ![j.val, 0, 0] (R3 1 n).size (hb j)) (fun _ => rfl)) fullShare v : sProp 𝕄))) $$ H
    icases H' with ⟨%v, H⟩
    let V : (R3 3 n).Idx → Val e := fun i => v (i 0) (fun a => match a with
      | ⟨0, _⟩ => ⟨0, Nat.one_pos⟩
      | ⟨1, _⟩ => i 1
      | ⟨2, _⟩ => i 2)
    have hV (j : Fin 3) : v j = fun y => V ((Rect.unit (s := R3 3 n) ![j.val, 0, 0] (R3 1 n).size (hb j)).emb y) := by
      funext y
      have hy : (y 0).val < 1 := (y 0).isLt
      show v j y = v _ _
      refine congrArg₂ (show Fin 3 → (R3 1 n).Idx → Val e from v) (Fin.ext ?_) (funext fun a => ?_)
      · show j.val = j.val + 1 * (y 0).val; omega
      · match a with
        | ⟨0, _⟩ => exact Fin.ext (show (y 0).val = 0 by omega)
        | ⟨1, _⟩ => exact Fin.ext (show (y 1).val = 0 + 1 * (y 1).val by omega)
        | ⟨2, _⟩ => exact Fin.ext (show (y 2).val = 0 + 1 * (y 2).val by omega)
    iexists V
    iapply (owns_of_rects c m fullShare (fun j : Fin 3 => Rect.unit (s := R3 3 n) ![j.val, 0, 0] (R3 1 n).size (hb j)) (fun _ _ => rfl) (slots_disjoint hb) (slots_cover hb) V)
    ihave H := (Entails.of_eq (bigSep_congr fun j (_ : j ∈ (Finset.univ : Finset (Fin 3))) => congrArg (owns c (m.slice (Rect.unit (s := R3 3 n) ![j.val, 0, 0] (R3 1 n).size (hb j)) (fun _ => rfl)) fullShare) (hV j))) $$ H
    iexact H

end Slots

/-! ## Loads and stores -/

section Access

variable [Preorder Lvl] {Λ : Labels} {defs : Defs nD τ sig Val Λ} (𝒱 : Variants) (c : Thread nD τ) (bd : Option 𝒱.V) {Γ : PendingWaitsCtx sig Ix} (E : Set Name)
variable {α : Type} {cs : CoreSpace} {s : Shape} {e : EltTy}

/-- A load of an owned part reads what the part holds. -/
theorem load_part {Q : α → sProp 𝕄} {m : Memref sig c.2.kind cs s e} {r : Rect s} {hl : m.view.LoadsAt r.toLoadRect} {k : (r.shape.Idx → Val e) → Prog (TpuEff nD τ sig Val Λ c.2) α}
    (p : Memref sig c.2.kind cs r.shape e) {q : PosShare TreeShare} {X : r.shape.Idx → Val e} {hr : ∀ a, r.stride a = 1} (hp : p = m.slice r hr) :
    (owns c p q X : sProp 𝕄)
      ⊢ iprop((owns c p q X -∗ wp frame (wpE' defs 𝒱 c bd Γ) E (k X) Q) -∗ wp frame (wpE' defs 𝒱 c bd Γ) E (.op (.load m r.toLoadRect hl) k) Q) := by
  subst hp
  unfold owns
  iintro ⟨%f, %hf, H⟩ Hk
  have hload := wp_load_rect (defs := defs) 𝒱 c bd (Γ := Γ) E (Q := Q) (m := m) (r := r) (hl := hl) (k := k) (q := q) (f := f) (S := (m.access r).set) (Finset.Subset.refl _)
  iapply hload $$ H
  iintro H
  rw [show (m.access r).read Val f = X from hf]
  iapply Hk
  iexists f
  isplitr; · ipureintro; exact hf
  iexact H

/-- A store over an owned part leaves it at what was stored. -/
theorem store_part {Q : α → sProp 𝕄} {m : Memref sig c.2.kind cs s e} {r : Rect s} {w : r.shape.Idx → Val e} {hx : (m.access r).Stores Finset.univ} {hm : Finset.univ = Finset.univ ∨ ∀ a, r.stride a = 1}
    {k : PUnit → Prog (TpuEff nD τ sig Val Λ c.2) α}
    (p : Memref sig c.2.kind cs r.shape e) {X : r.shape.Idx → Val e} {hr : ∀ a, r.stride a = 1} (hp : p = m.slice r hr) :
    (owns c p fullShare X : sProp 𝕄)
      ⊢ iprop((owns c p fullShare w -∗ wp frame (wpE' defs 𝒱 c bd Γ) E (k ⟨⟩) Q) -∗ wp frame (wpE' defs 𝒱 c bd Γ) E (.op (.store m r w Finset.univ hx hm) k) Q) := by
  subst hp
  unfold owns
  iintro ⟨%f, %hf, H⟩ Hk
  have hstore := wp_store (defs := defs) 𝒱 c bd (Γ := Γ) E (Q := Q) (m := m) (r := r) (w := w) (Mk := Finset.univ) (hx := hx) (hm := hm) (k := k) (f := f) (S := (m.access r).set)
    (Finset.Subset.refl _)
  iapply hstore $$ H
  iintro H
  iapply Hk
  iexists ((m.access r).write Val f w Finset.univ)
  isplitr; · ipureintro; exact View.read_write_univ _ _
  iexact H

end Access

end Cert.Rows

end
-- ==== Proof.KernelProgEq.lean ====
module

public import proofs.«01_k».proof.Proof.KernelProg

/-! # The printed body is the sequence of phases -/

@[expose] public section

set_option synthInstance.maxSize 4096
set_option maxRecDepth 20000

noncomputable section

namespace Cert.KernelProof

open Idealize.ShloMosaic Idealize.SL.Sem Cert.Kernel Cert.Kernel.Gen

variable {F : FTy → Type} [FloatOps F]

set_option maxHeartbeats 4000000 in
/-- The body reads the device's number and then runs the phases. -/
theorem body_eq (t : Fin cfg0.N) : bodyAt0 (F := F) t = Prog.op .deviceId (fun d => mainP d) := by
  rfl

end Cert.KernelProof

end
-- ==== Proof.KernelIdealProg.lean ====
module

public import proofs.«01_k».proof.Proof.Gen.KernelIdeal.Skeleton
public import proofs.«01_k».proof.Proof.Gen.KernelIdeal.Launch
public import proofs.«01_k».proof.Proof.Gen.KernelIdeal.Points

/-! # The kernel's body as a sequence of phases

The printed body is one long list of memory operations. Here it is read as what it is: a barrier, the
store of the device's own rows, two exchanges that hand every row to every device, then three layers of
(multiply, exchange, add, exchange, add, exchange, exchange), then the copy of the rows into the result. -/

@[expose] public section

set_option synthInstance.maxSize 4096

noncomputable section

namespace Cert.KernelIdealProof

open Idealize.ShloMosaic Idealize.SL.Sem Cert.KernelIdeal Cert.KernelIdeal.Gen

variable {F : FTy → Type} [FloatOps F]

/-! ## The buffers -/

/-- The staged block of the argument. -/
abbrev xM : Memref sig .tc .vmem S512x256 .bf16 := Memref.whole cc0_stg0_0
/-- The staged result. -/
abbrev oM : Memref sig .tc .vmem S8192x256 .f32 := Memref.whole cc0_stg7_0
/-- All rows, as every device holds them. -/
abbrev xf : Memref sig .tc .vmem S8192x256 .bf16 := Memref.whole cc0_scratch0
/-- The device's own contribution to every row. -/
abbrev pb : Memref sig .tc .vmem S8192x256 .bf16 := Memref.whole cc0_scratch1
/-- A plane's sum of one slab of rows. -/
abbrev cs : Memref sig .tc .vmem S2048x256 .bf16 := Memref.whole cc0_scratch2
/-- The slabs the plane peers send. -/
abbrev pr : Memref sig .tc .vmem S3x2048x256 .bf16 := Memref.whole cc0_scratch3
/-- The blocks the column peers send. -/
abbrev zr : Memref sig .tc .vmem S3x512x256 .bf16 := Memref.whole cc0_scratch4

/-- A layer's two staged weights. -/
abbrev w1M : Memref sig .tc .vmem S256x512 .bf16 := Memref.whole cc0_stg1_0
abbrev w2M : Memref sig .tc .vmem S512x256 .bf16 := Memref.whole cc0_stg2_0
abbrev w3M : Memref sig .tc .vmem S256x512 .bf16 := Memref.whole cc0_stg3_0
abbrev w4M : Memref sig .tc .vmem S512x256 .bf16 := Memref.whole cc0_stg4_0
abbrev w5M : Memref sig .tc .vmem S256x512 .bf16 := Memref.whole cc0_stg5_0
abbrev w6M : Memref sig .tc .vmem S512x256 .bf16 := Memref.whole cc0_stg6_0

/-- Device `d`'s block of 512 rows. -/
abbrev xblk (d : Dev nD) : Memref sig .tc .vmem S512x256 .bf16 :=
  xf.slice (Rect.unit (s := S8192x256) (k0_off2 d) S512x256.size (k0_off2_inb d)) (fun _ => rfl)
/-- The block at distance `e + 1` down the column. -/
abbrev xblkAt (d : Dev nD) (e : Fin 3) : Memref sig .tc .vmem S512x256 .bf16 :=
  xf.slice (Rect.unit (s := S8192x256) (k0_off3 d (BitVec.ofNat 32 (1 + e.val))) S512x256.size (k0_off3_inb d e)) (fun _ => rfl)
/-- The slab of 2048 rows of device `d`'s column. -/
abbrev xslab (d : Dev nD) : Memref sig .tc .vmem S2048x256 .bf16 :=
  xf.slice (Rect.unit (s := S8192x256) (k0_off4 d) S2048x256.size (k0_off4_inb d)) (fun _ => rfl)
/-- The slab at distance `e + 1` around the plane. -/
abbrev xslabAt (d : Dev nD) (e : Fin 3) : Memref sig .tc .vmem S2048x256 .bf16 :=
  xf.slice (Rect.unit (s := S8192x256) (k0_off5 d (BitVec.ofNat 32 (1 + e.val))) S2048x256.size (k0_off5_inb d e)) (fun _ => rfl)
/-- The contribution to that slab. -/
abbrev pslabAt (d : Dev nD) (e : Fin 3) : Memref sig .tc .vmem S2048x256 .bf16 :=
  pb.slice (Rect.unit (s := S8192x256) (k0_off5 d (BitVec.ofNat 32 (1 + e.val))) S2048x256.size (k0_off5_inb d e)) (fun _ => rfl)
/-- The plane's sum of the block at distance `e + 1` down the column. -/
abbrev cblkAt (d : Dev nD) (e : Fin 3) : Memref sig .tc .vmem S512x256 .bf16 :=
  cs.slice (Rect.unit (s := S2048x256) (k0_off7 d (BitVec.ofNat 32 (1 + e.val))) S512x256.size (k0_off7_inb d e)) (fun _ => rfl)

theorem pr_inb : ∀ s : Fin 3, ∀ a, (![s.val, 0, 0] : Fin 3 → ℕ) a + S1x2048x256.size a ≤ S3x2048x256.size a := by decide
theorem zr_inb : ∀ s : Fin 3, ∀ a, (![s.val, 0, 0] : Fin 3 → ℕ) a + S1x512x256.size a ≤ S3x512x256.size a := by decide

/-- The place of one slab of the plane peers'. -/
abbrev prSlot (s : Fin 3) : Memref sig .tc .vmem S2048x256 .bf16 :=
  (pr.slice (Rect.unit (s := S3x2048x256) ![s.val, 0, 0] S1x2048x256.size (pr_inb s)) (fun _ => rfl)).squeeze S2048x256 squeezes_S1x2048x256_S2048x256
/-- The place of one block of the column peers'. -/
abbrev zrSlot (s : Fin 3) : Memref sig .tc .vmem S512x256 .bf16 :=
  (zr.slice (Rect.unit (s := S3x512x256) ![s.val, 0, 0] S1x512x256.size (zr_inb s)) (fun _ => rfl)).squeeze S512x256 squeezes_S1x512x256_S512x256

/-! ## The semaphores -/

theorem sem_inb : ∀ e : Fin 3, ∀ a, (![e.val] : Fin 1 → ℕ) a + S1.size a ≤ S3.size a := by decide

/-- Cell `e` of an array of three DMA semaphores. -/
abbrev semAt (A : DmaSems sig S3) (e : Fin 3) : DmaSem sig :=
  ((A.slice (Rect.unit (s := S3) ![e.val] S1.size (sem_inb e))).squeeze S_ squeezes_S1_S_).sem

/-- The receive semaphores of the four kinds of exchange: rows down the column, rows around the plane,
    contributions around the plane, sums down the column. -/
abbrev rArr : Fin 4 → DmaSems sig S3 := ![cc0_scratch8, cc0_scratch9, cc0_scratch6, cc0_scratch7]

/-- The receive semaphore of slot `s` of kind `a`. -/
abbrev rsem (a : Fin 4) (s : Fin 3) : DmaSem sig := semAt (rArr a) s
/-- The barrier semaphore. -/
abbrev bsem : Sem sig := (SemArray.scalar (sig.barrier 0 rfl) : Sems sig S_).sem
/-- The send semaphore of distance `e + 1`. -/
abbrev ssem (e : Fin 3) : DmaSem sig := semAt cc0_scratch5 e

/-! ## The phases -/

/-- One exchange: three sends, the three arrivals, the three departures. -/
def exch {s : Shape} (a : Fin 4) (n : Fin 3 → Dev nD) (src dst wr ws : Fin 3 → Memref sig .tc .vmem s .bf16)
    (hsrc : ∀ e, (src e).view.WordExact) (hdst : ∀ e, (dst e).view.WordExact) (hwr : ∀ e, (wr e).view.WordExact) (hws : ∀ e, (ws e).view.WordExact) :
    Prog (TpuEff nD τ sig (Elt F) Λ₀ .tc) PUnit := do
  Prog.lift (.enqueueDma (src 0) (.remote (Dev.tc (n 0)) (dst 2) (.dma (ssem 0))) (.dma (rsem a 2)) (hsrc 0) (hdst 2) ⟨⟨rfl, Or.inl rfl⟩, trivial⟩)
  Prog.lift (.enqueueDma (src 1) (.remote (Dev.tc (n 1)) (dst 1) (.dma (ssem 1))) (.dma (rsem a 1)) (hsrc 1) (hdst 1) ⟨⟨rfl, Or.inl rfl⟩, trivial⟩)
  Prog.lift (.enqueueDma (src 2) (.remote (Dev.tc (n 2)) (dst 0) (.dma (ssem 2))) (.dma (rsem a 0)) (hsrc 2) (hdst 0) ⟨⟨rfl, Or.inl rfl⟩, trivial⟩)
  Prog.lift (.waitDma2 (rsem a 0) (wr 0) (wr 0) (hwr 0) (hwr 0))
  Prog.lift (.waitDma2 (rsem a 1) (wr 1) (wr 1) (hwr 1) (hwr 1))
  Prog.lift (.waitDma2 (rsem a 2) (wr 2) (wr 2) (hwr 2) (hwr 2))
  Prog.lift (.waitDma2 (ssem 0) (ws 2) (src 0) (hws 2) (hsrc 0))
  Prog.lift (.waitDma2 (ssem 1) (ws 1) (src 1) (hws 1) (hsrc 1))
  Prog.lift (.waitDma2 (ssem 2) (ws 0) (src 2) (hws 0) (hsrc 2))
  pure ⟨⟩

theorem xblk_words (d : Dev nD) : (xblk d).view.WordExact := (Memref.isWhole_whole cc0_scratch0).wordExact_slice rfl _ (k0_off2_wordsbf16 d)
theorem xblkAt_words (d : Dev nD) (e : Fin 3) : (xblkAt d e).view.WordExact := (Memref.isWhole_whole cc0_scratch0).wordExact_slice rfl _ (k0_off3_wordsbf16 d e)
theorem xslab_words (d : Dev nD) : (xslab d).view.WordExact := (Memref.isWhole_whole cc0_scratch0).wordExact_slice rfl _ (k0_off4_wordsbf16 d)
theorem xslabAt_words (d : Dev nD) (e : Fin 3) : (xslabAt d e).view.WordExact := (Memref.isWhole_whole cc0_scratch0).wordExact_slice rfl _ (k0_off5_wordsbf16 d e)
theorem pslabAt_words (d : Dev nD) (e : Fin 3) : (pslabAt d e).view.WordExact := (Memref.isWhole_whole cc0_scratch1).wordExact_slice rfl _ (k0_off5_wordsbf16 d e)
theorem cblkAt_words (d : Dev nD) (e : Fin 3) : (cblkAt d e).view.WordExact := (Memref.isWhole_whole cc0_scratch2).wordExact_slice rfl _ (k0_off7_wordsbf16 d e)
theorem prSlot_words : ∀ e : Fin 3, (prSlot e).view.WordExact
  | 0 => ((Memref.isWhole_whole cc0_scratch3).wordExact_slice rfl _ wordsbf16_S3x2048x256_S1x2048x256_0_0_0).reshape _ _
  | 1 => ((Memref.isWhole_whole cc0_scratch3).wordExact_slice rfl _ wordsbf16_S3x2048x256_S1x2048x256_1_0_0).reshape _ _
  | 2 => ((Memref.isWhole_whole cc0_scratch3).wordExact_slice rfl _ wordsbf16_S3x2048x256_S1x2048x256_2_0_0).reshape _ _
theorem zrSlot_words : ∀ e : Fin 3, (zrSlot e).view.WordExact
  | 0 => ((Memref.isWhole_whole cc0_scratch4).wordExact_slice rfl _ wordsbf16_S3x512x256_S1x512x256_0_0_0).reshape _ _
  | 1 => ((Memref.isWhole_whole cc0_scratch4).wordExact_slice rfl _ wordsbf16_S3x512x256_S1x512x256_1_0_0).reshape _ _
  | 2 => ((Memref.isWhole_whole cc0_scratch4).wordExact_slice rfl _ wordsbf16_S3x512x256_S1x512x256_2_0_0).reshape _ _

/-- The rows go down the column. -/
abbrev zagP (d : Dev nD) (n : Fin 3 → Dev nD) : Prog (TpuEff nD τ sig (Elt F) Λ₀ .tc) PUnit :=
  exch 0 n (fun _ => xblk d) (fun _ => xblk d) (fun s => xblkAt d s) (fun _ => xblk d) (fun _ => xblk_words d) (fun _ => xblk_words d) (xblkAt_words d) (fun _ => xblk_words d)
/-- The rows go around the plane. -/
abbrev pagP (d : Dev nD) (n : Fin 3 → Dev nD) : Prog (TpuEff nD τ sig (Elt F) Λ₀ .tc) PUnit :=
  exch 1 n (fun _ => xslab d) (fun _ => xslab d) (fun s => xslabAt d s) (fun _ => xslab d) (fun _ => xslab_words d) (fun _ => xslab_words d) (xslabAt_words d) (fun _ => xslab_words d)
/-- The contributions go around the plane. -/
abbrev prsP (d : Dev nD) (n : Fin 3 → Dev nD) : Prog (TpuEff nD τ sig (Elt F) Λ₀ .tc) PUnit :=
  exch 2 n (fun e => pslabAt d e) prSlot prSlot prSlot (pslabAt_words d) prSlot_words prSlot_words prSlot_words
/-- The sums go down the column. -/
abbrev zrsP (d : Dev nD) (n : Fin 3 → Dev nD) : Prog (TpuEff nD τ sig (Elt F) Λ₀ .tc) PUnit :=
  exch 3 n (fun e => cblkAt d e) zrSlot zrSlot zrSlot (cblkAt_words d) zrSlot_words zrSlot_words zrSlot_words

/-- The barrier: six signals, one wait for six. -/
def barP (n : Fin 3 → Dev nD) (n' : Fin 3 → Dev nD) : Prog (TpuEff nD τ sig (Elt F) Λ₀ .tc) PUnit := do
  semSignalWord (n 0) bsem 1#32
  semSignalWord (n' 0) bsem 1#32
  semSignalWord (n 1) bsem 1#32
  semSignalWord (n' 1) bsem 1#32
  semSignalWord (n 2) bsem 1#32
  semSignalWord (n' 2) bsem 1#32
  semWaitWord bsem 6#32
  pure ⟨⟩

/-- The device's own rows go into the buffer of all rows. -/
def initP (d : Dev nD) : Prog (TpuEff nD τ sig (Elt F) Λ₀ .tc) PUnit := do
  let v : Vec F S512x256 .bf16 ← Prog.lift (.load xM (Rect.unit (s := S512x256) ![0, 0] S512x256.size inb_S512x256_S512x256_0_0).toLoadRect (View.loadsAt_vmem h_S512x256))
  let _v : Vec F S512x256 .bf16 ← Prog.lift (.load xf (Rect.unit (s := S8192x256) (k0_off1 d) S512x256.size (k0_off1_inb d)).toLoadRect (View.loadsAt_vmem h_S512x256))
  Prog.lift (.store xf (Rect.unit (s := S8192x256) (k0_off1 d) S512x256.size (k0_off1_inb d)) (k0_pay4 v) Finset.univ (View.stores_vmem h_S512x256 ((Memref.isWhole_whole cc0_scratch0).storeExact_slice rfl _ (k0_off1_packedbf16 d)) (fun _ => rfl)) (.inl rfl))
  pure ⟨⟩

/-- One layer's products of all rows by the device's own weights, a quarter of the rows at a time. -/
def compP (wi : Memref sig .tc .vmem S256x512 .bf16) (wo : Memref sig .tc .vmem S512x256 .bf16) : Prog (TpuEff nD τ sig (Elt F) Λ₀ .tc) PUnit := do
  let a : Vec F S256x512 .bf16 ← Prog.lift (.load wi (Rect.unit (s := S256x512) ![0, 0] S256x512.size inb_S256x512_S256x512_0_0).toLoadRect (View.loadsAt_vmem h_S256x512))
  let b : Vec F S512x256 .bf16 ← Prog.lift (.load wo (Rect.unit (s := S512x256) ![0, 0] S512x256.size inb_S512x256_S512x256_0_0).toLoadRect (View.loadsAt_vmem h_S512x256))
  let x0 : Vec F S2048x256 .bf16 ← Prog.lift (.load xf (Rect.unit (s := S8192x256) ![0, 0] S2048x256.size inb_S8192x256_S2048x256_0_0).toLoadRect (View.loadsAt_vmem h_S2048x256))
  let _y0 : Vec F S2048x256 .bf16 ← Prog.lift (.load pb (Rect.unit (s := S8192x256) ![0, 0] S2048x256.size inb_S8192x256_S2048x256_0_0).toLoadRect (View.loadsAt_vmem h_S2048x256))
  Prog.lift (.store pb (Rect.unit (s := S8192x256) ![0, 0] S2048x256.size inb_S8192x256_S2048x256_0_0) (k0_pay7 a b x0) Finset.univ (View.stores_vmem h_S2048x256 ((Memref.isWhole_whole cc0_scratch1).storeExact_slice rfl _ packedbf16_S8192x256_S2048x256_0_0) (fun _ => rfl)) (.inl rfl))
  let x1 : Vec F S2048x256 .bf16 ← Prog.lift (.load xf (Rect.unit (s := S8192x256) ![2048, 0] S2048x256.size inb_S8192x256_S2048x256_2048_0).toLoadRect (View.loadsAt_vmem h_S2048x256))
  let _y1 : Vec F S2048x256 .bf16 ← Prog.lift (.load pb (Rect.unit (s := S8192x256) ![2048, 0] S2048x256.size inb_S8192x256_S2048x256_2048_0).toLoadRect (View.loadsAt_vmem h_S2048x256))
  Prog.lift (.store pb (Rect.unit (s := S8192x256) ![2048, 0] S2048x256.size inb_S8192x256_S2048x256_2048_0) (k0_pay7 a b x1) Finset.univ (View.stores_vmem h_S2048x256 ((Memref.isWhole_whole cc0_scratch1).storeExact_slice rfl _ packedbf16_S8192x256_S2048x256_2048_0) (fun _ => rfl)) (.inl rfl))
  let x2 : Vec F S2048x256 .bf16 ← Prog.lift (.load xf (Rect.unit (s := S8192x256) ![4096, 0] S2048x256.size inb_S8192x256_S2048x256_4096_0).toLoadRect (View.loadsAt_vmem h_S2048x256))
  let _y2 : Vec F S2048x256 .bf16 ← Prog.lift (.load pb (Rect.unit (s := S8192x256) ![4096, 0] S2048x256.size inb_S8192x256_S2048x256_4096_0).toLoadRect (View.loadsAt_vmem h_S2048x256))
  Prog.lift (.store pb (Rect.unit (s := S8192x256) ![4096, 0] S2048x256.size inb_S8192x256_S2048x256_4096_0) (k0_pay7 a b x2) Finset.univ (View.stores_vmem h_S2048x256 ((Memref.isWhole_whole cc0_scratch1).storeExact_slice rfl _ packedbf16_S8192x256_S2048x256_4096_0) (fun _ => rfl)) (.inl rfl))
  let x3 : Vec F S2048x256 .bf16 ← Prog.lift (.load xf (Rect.unit (s := S8192x256) ![6144, 0] S2048x256.size inb_S8192x256_S2048x256_6144_0).toLoadRect (View.loadsAt_vmem h_S2048x256))
  let _y3 : Vec F S2048x256 .bf16 ← Prog.lift (.load pb (Rect.unit (s := S8192x256) ![6144, 0] S2048x256.size inb_S8192x256_S2048x256_6144_0).toLoadRect (View.loadsAt_vmem h_S2048x256))
  Prog.lift (.store pb (Rect.unit (s := S8192x256) ![6144, 0] S2048x256.size inb_S8192x256_S2048x256_6144_0) (k0_pay7 a b x3) Finset.univ (View.stores_vmem h_S2048x256 ((Memref.isWhole_whole cc0_scratch1).storeExact_slice rfl _ packedbf16_S8192x256_S2048x256_6144_0) (fun _ => rfl)) (.inl rfl))
  pure ⟨⟩

/-- The plane's sum of the device's slab. -/
def csumP (d : Dev nD) : Prog (TpuEff nD τ sig (Elt F) Λ₀ .tc) PUnit := do
  let own : Vec F S2048x256 .bf16 ← Prog.lift (.load pb (Rect.unit (s := S8192x256) (k0_off6 d) S2048x256.size (k0_off6_inb d)).toLoadRect (View.loadsAt_vmem h_S2048x256))
  let p0 : Vec F S1x2048x256 .bf16 ← Prog.lift (.load pr (Rect.unit (s := S3x2048x256) ![0, 0, 0] S1x2048x256.size inb_S3x2048x256_S1x2048x256_0_0_0).toLoadRect (View.loadsAt_vmem h_S1x2048x256))
  let p1 : Vec F S1x2048x256 .bf16 ← Prog.lift (.load pr (Rect.unit (s := S3x2048x256) ![1, 0, 0] S1x2048x256.size inb_S3x2048x256_S1x2048x256_1_0_0).toLoadRect (View.loadsAt_vmem h_S1x2048x256))
  let p2 : Vec F S1x2048x256 .bf16 ← Prog.lift (.load pr (Rect.unit (s := S3x2048x256) ![2, 0, 0] S1x2048x256.size inb_S3x2048x256_S1x2048x256_2_0_0).toLoadRect (View.loadsAt_vmem h_S1x2048x256))
  let _c : Vec F S2048x256 .bf16 ← Prog.lift (.load cs (Rect.unit (s := S2048x256) ![0, 0] S2048x256.size inb_S2048x256_S2048x256_0_0).toLoadRect (View.loadsAt_vmem h_S2048x256))
  Prog.lift (.store cs (Rect.unit (s := S2048x256) ![0, 0] S2048x256.size inb_S2048x256_S2048x256_0_0) (k0_pay14 (k0_pay12 own p0) (k0_pay13 p1) p2) Finset.univ (View.stores_vmem h_S2048x256 ((Memref.isWhole_whole cc0_scratch2).storeExact_slice rfl _ packedbf16_S2048x256_S2048x256_0_0) (fun _ => rfl)) (.inl rfl))
  pure ⟨⟩

/-- The whole mesh's sum of the device's block, stored into the rows. -/
def redP (d : Dev nD) : Prog (TpuEff nD τ sig (Elt F) Λ₀ .tc) PUnit := do
  let own : Vec F S512x256 .bf16 ← Prog.lift (.load cs (Rect.unit (s := S2048x256) (k0_off8 d) S512x256.size (k0_off8_inb d)).toLoadRect (View.loadsAt_vmem h_S512x256))
  let p0 : Vec F S1x512x256 .bf16 ← Prog.lift (.load zr (Rect.unit (s := S3x512x256) ![0, 0, 0] S1x512x256.size inb_S3x512x256_S1x512x256_0_0_0).toLoadRect (View.loadsAt_vmem h_S1x512x256))
  let p1 : Vec F S1x512x256 .bf16 ← Prog.lift (.load zr (Rect.unit (s := S3x512x256) ![1, 0, 0] S1x512x256.size inb_S3x512x256_S1x512x256_1_0_0).toLoadRect (View.loadsAt_vmem h_S1x512x256))
  let p2 : Vec F S1x512x256 .bf16 ← Prog.lift (.load zr (Rect.unit (s := S3x512x256) ![2, 0, 0] S1x512x256.size inb_S3x512x256_S1x512x256_2_0_0).toLoadRect (View.loadsAt_vmem h_S1x512x256))
  let _c : Vec F S512x256 .bf16 ← Prog.lift (.load xf (Rect.unit (s := S8192x256) (k0_off1 d) S512x256.size (k0_off1_inb d)).toLoadRect (View.loadsAt_vmem h_S512x256))
  Prog.lift (.store xf (Rect.unit (s := S8192x256) (k0_off1 d) S512x256.size (k0_off1_inb d)) (k0_pay15 own p0 p1 p2) Finset.univ (View.stores_vmem h_S512x256 ((Memref.isWhole_whole cc0_scratch0).storeExact_slice rfl _ (k0_off1_packedbf16 d)) (fun _ => rfl)) (.inl rfl))
  pure ⟨⟩

/-- One layer. -/
def layerP (d : Dev nD) (wi : Memref sig .tc .vmem S256x512 .bf16) (wo : Memref sig .tc .vmem S512x256 .bf16) (n₂ n₃ n₀ n₁ : Fin 3 → Dev nD) : Prog (TpuEff nD τ sig (Elt F) Λ₀ .tc) PUnit := do
  compP wi wo
  prsP d n₂
  csumP d
  zrsP d n₃
  redP d
  zagP d n₀
  pagP d n₁

theorem dst_inb : ∀ b : Fin 16, ∀ a, (![512 * b.val, 0] : Fin 2 → ℕ) a + S512x256.size a ≤ S8192x256.size a := by decide
theorem srcRow_inb : ∀ b : Fin 16, ∀ a, (![2048 * (b.val % 4) + 512 * (b.val / 4), 0] : Fin 2 → ℕ) a + S512x256.size a ≤ S8192x256.size a := by decide

/-- Block `b` of the result, from the block of the rows of device `b`. -/
def outP (b : Fin 16) : Prog (TpuEff nD τ sig (Elt F) Λ₀ .tc) PUnit := do
  let v : Vec F S512x256 .bf16 ← Prog.lift (.load xf (Rect.unit (s := S8192x256) ![2048 * (b.val % 4) + 512 * (b.val / 4), 0] S512x256.size (srcRow_inb b)).toLoadRect (View.loadsAt_vmem h_S512x256))
  let _v : Vec F S512x256 .f32 ← Prog.lift (.load oM (Rect.unit (s := S8192x256) ![512 * b.val, 0] S512x256.size (dst_inb b)).toLoadRect (View.loadsAt_vmem h_S512x256))
  Prog.lift (.store oM (Rect.unit (s := S8192x256) ![512 * b.val, 0] S512x256.size (dst_inb b)) (k0_pay38 v) Finset.univ (View.stores_vmem_bits_univ h_S512x256 rfl) (.inl rfl))
  pure ⟨⟩

/-- All sixteen of them. -/
def outsP : Prog (TpuEff nD τ sig (Elt F) Λ₀ .tc) PUnit := do
  outP 0; outP 1; outP 2; outP 3; outP 4; outP 5; outP 6; outP 7
  outP 8; outP 9; outP 10; outP 11; outP 12; outP 13; outP 14; outP 15

/-- The body after its first operation, on device `d`. -/
def mainP (d : Dev nD) : Prog (TpuEff nD τ sig (Elt F) Λ₀ .tc) PUnit := do
  barP ![⟨k0_dev1 d, k0_dev1_lt d⟩, ⟨k0_dev3 d, k0_dev3_lt d⟩, ⟨k0_dev5 d, k0_dev5_lt d⟩] ![⟨k0_dev2 d, k0_dev2_lt d⟩, ⟨k0_dev4 d, k0_dev4_lt d⟩, ⟨k0_dev6 d, k0_dev6_lt d⟩]
  initP d
  zagP d ![⟨k0_dev7 d, k0_dev7_lt d⟩, ⟨k0_dev8 d, k0_dev8_lt d⟩, ⟨k0_dev9 d, k0_dev9_lt d⟩]
  pagP d ![⟨k0_dev10 d, k0_dev10_lt d⟩, ⟨k0_dev11 d, k0_dev11_lt d⟩, ⟨k0_dev12 d, k0_dev12_lt d⟩]
  layerP d w1M w2M
    ![⟨k0_dev13 d, k0_dev13_lt d⟩, ⟨k0_dev14 d, k0_dev14_lt d⟩, ⟨k0_dev15 d, k0_dev15_lt d⟩]
    ![⟨k0_dev16 d, k0_dev16_lt d⟩, ⟨k0_dev17 d, k0_dev17_lt d⟩, ⟨k0_dev18 d, k0_dev18_lt d⟩]
    ![⟨k0_dev19 d, k0_dev19_lt d⟩, ⟨k0_dev20 d, k0_dev20_lt d⟩, ⟨k0_dev21 d, k0_dev21_lt d⟩]
    ![⟨k0_dev22 d, k0_dev22_lt d⟩, ⟨k0_dev23 d, k0_dev23_lt d⟩, ⟨k0_dev24 d, k0_dev24_lt d⟩]
  layerP d w3M w4M
    ![⟨k0_dev25 d, k0_dev25_lt d⟩, ⟨k0_dev26 d, k0_dev26_lt d⟩, ⟨k0_dev27 d, k0_dev27_lt d⟩]
    ![⟨k0_dev28 d, k0_dev28_lt d⟩, ⟨k0_dev29 d, k0_dev29_lt d⟩, ⟨k0_dev30 d, k0_dev30_lt d⟩]
    ![⟨k0_dev31 d, k0_dev31_lt d⟩, ⟨k0_dev32 d, k0_dev32_lt d⟩, ⟨k0_dev33 d, k0_dev33_lt d⟩]
    ![⟨k0_dev34 d, k0_dev34_lt d⟩, ⟨k0_dev35 d, k0_dev35_lt d⟩, ⟨k0_dev36 d, k0_dev36_lt d⟩]
  layerP d w5M w6M
    ![⟨k0_dev37 d, k0_dev37_lt d⟩, ⟨k0_dev38 d, k0_dev38_lt d⟩, ⟨k0_dev39 d, k0_dev39_lt d⟩]
    ![⟨k0_dev40 d, k0_dev40_lt d⟩, ⟨k0_dev41 d, k0_dev41_lt d⟩, ⟨k0_dev42 d, k0_dev42_lt d⟩]
    ![⟨k0_dev43 d, k0_dev43_lt d⟩, ⟨k0_dev44 d, k0_dev44_lt d⟩, ⟨k0_dev45 d, k0_dev45_lt d⟩]
    ![⟨k0_dev46 d, k0_dev46_lt d⟩, ⟨k0_dev47 d, k0_dev47_lt d⟩, ⟨k0_dev48 d, k0_dev48_lt d⟩]
  outsP

end Cert.KernelIdealProof

end
-- ==== Proof.KernelIdealSched.lean ====
module

public import proofs.«01_k».proof.Proof.KernelIdealProg
public import proofs.«01_k».proof.Proof.Rows
public import Idealize.ShloMosaic.Lib.Pipeline.Launch
public import Idealize.ShloMosaic.Lib.Pipeline.Kit
public import Idealize.ShloMosaic.Lib.Tactic
public import Mathlib.Algebra.Order.BigOperators.Group.LocallyFinite

/-! # Who hands what to whom

The mesh of sixteen devices is four columns by four rows of devices. An exchange is three transfers to the
three peers of a column or of a plane, and there are fourteen of them, counted by a kind and a layer: rows down
the column, rows around the plane, contributions around the plane, sums down the column. Here are the
values the devices hold between them, and what every semaphore's units carry. -/

@[expose] public section

set_option synthInstance.maxSize 4096

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rows (R at2 tall rows third)

variable {F : FTy → Type} [FloatOps F]

/-- What a round of a cell may be owed: the barrier's six units, and one unit named `(0, 0)` elsewhere. -/
abbrev Du : Type := Fin 2 × Fin 3

abbrev UU : Type := UR sig nD τ × URounds (GSem nD τ sig) Du

local notation "𝕄" => MT nD τ sig ℕ (Elt F) ℕ UU ℕ

abbrev EP : Emb (UR sig nD τ) (MT nD τ sig ℕ (Elt F) ℕ UU ℕ) := embL
abbrev ER : Emb (URounds (GSem nD τ sig) Du) (MT nD τ sig ℕ (Elt F) ℕ UU ℕ) := embR

/-! ## The mesh -/

/-- A device's place in its plane, and which plane. -/
def pc (c : Dev nD) : Fin 4 := ⟨c.val % 4, Nat.mod_lt _ (by decide)⟩
def zc (c : Dev nD) : Fin 4 := ⟨c.val / 4, Nat.div_lt_of_lt_mul (by have : c.val < 16 := c.isLt; omega)⟩
/-- The device at place `p` of plane `z`. -/
def dv (z p : Fin 4) : Dev nD := ⟨4 * z.val + p.val, by show _ < 16; omega⟩
/-- Which of the sixteen blocks of rows is the device's. -/
def bk (c : Dev nD) : Fin 16 := ⟨4 * (c.val % 4) + c.val / 4, by have : c.val < 16 := c.isLt; omega⟩

/-- The peer at distance `e + 1`: down the column or around the plane, by the kind of exchange. -/
def peer (a : Fin 4) (c : Dev nD) (e : Fin 3) : Dev nD := match a with
  | 0 => dv ⟨(c.val / 4 + e.val + 1) % 4, Nat.mod_lt _ (by decide)⟩ (pc c)
  | 1 => dv (zc c) ⟨(c.val % 4 + e.val + 1) % 4, Nat.mod_lt _ (by decide)⟩
  | 2 => dv (zc c) ⟨(c.val % 4 + e.val + 1) % 4, Nat.mod_lt _ (by decide)⟩
  | 3 => dv ⟨(c.val / 4 + e.val + 1) % 4, Nat.mod_lt _ (by decide)⟩ (pc c)

theorem peer_peer (a : Fin 4) (c : Dev nD) (e : Fin 3) : peer a (peer a c e) (Fin.rev e) = c := by
  revert a c e; decide +kernel

theorem dv_coords (c : Dev nD) : dv (zc c) (pc c) = c := Fin.ext (by show 4 * (c.val / 4) + c.val % 4 = c.val; omega)
theorem zc_dv : ∀ z p : Fin 4, zc (dv z p) = z := by decide
theorem pc_dv : ∀ z p : Fin 4, pc (dv z p) = p := by decide

/-! ## The buffers' parts -/

/-- Block `k` of the rows. -/
abbrev xrow (k : Fin 16) : Memref sig .tc .vmem S512x256 .bf16 := rows (N := 8192) xf 512 (512 * k.val) (Rows.inb (by omega))
/-- Slab `p` of the rows, -/
abbrev xsl (p : Fin 4) : Memref sig .tc .vmem S2048x256 .bf16 := rows (N := 8192) xf 2048 (2048 * p.val) (Rows.inb (by omega))
/-- and of the contributions. -/
abbrev psl (p : Fin 4) : Memref sig .tc .vmem S2048x256 .bf16 := rows (N := 8192) pb 2048 (2048 * p.val) (Rows.inb (by omega))
/-- Block `z` of the plane's sum. -/
abbrev cbk (z : Fin 4) : Memref sig .tc .vmem S512x256 .bf16 := rows (N := 2048) cs 512 (512 * z.val) (Rows.inb (by omega))
/-- Block `b` of the result. -/
abbrev orow (b : Fin 16) : Memref sig .tc .vmem S512x256 .f32 := rows (N := 8192) oM 512 (512 * b.val) (Rows.inb (by omega))

theorem xblk_eq (d : Dev nD) : xblk d = xrow (bk d) :=
  Rows.slice_eq xf ((k0_off2_eq d).trans (by show _ = ![512 * (4 * (d.val % 4) + d.val / 4), 0]; congr 1; omega)) _ _
theorem xslab_eq (d : Dev nD) : xslab d = xsl (pc d) := Rows.slice_eq xf (k0_off4_eq d) _ _
theorem pslabAt_eq (d : Dev nD) (e : Fin 3) : pslabAt d e = psl (pc (peer 2 d e)) :=
  Rows.slice_eq pb ((k0_off5_eq d e).trans (by show _ = ![2048 * (pc (dv (zc d) _)).val, 0]; rw [pc_dv])) _ _
theorem cblkAt_eq (d : Dev nD) (e : Fin 3) : cblkAt d e = cbk (zc (peer 3 d e)) :=
  Rows.slice_eq cs ((k0_off7_eq d e).trans (by show _ = ![512 * (zc (dv _ (pc d))).val, 0]; rw [zc_dv])) _ _

/-! ## The values -/

/-- What the devices start from: their rows and, layer by layer, their weights. -/
structure Ins (F : FTy → Type) where
  x : Dev nD → Vec F S512x256 .bf16
  wi : ℕ → Dev nD → Vec F S256x512 .bf16
  wo : ℕ → Dev nD → Vec F S512x256 .bf16

/-- A slab read with a leading axis of one. -/
def upS (v : Vec F S2048x256 .bf16) : Vec F S1x2048x256 .bf16 := fun y => v ((Shape.reshapeEquiv squeezes_S1x2048x256_S2048x256.numel_eq).symm y)
def upB (v : Vec F S512x256 .bf16) : Vec F S1x512x256 .bf16 := fun y => v ((Shape.reshapeEquiv squeezes_S1x512x256_S512x256.numel_eq).symm y)

/-- Block `z` of a slab. -/
def cpart (z : Fin 4) (v : Vec F S2048x256 .bf16) : Vec F S512x256 .bf16 := fun i => v (at2 (n := 2048) ⟨512 * z.val + (i 0).val, by have : (i 0).val < 512 := (i 0).isLt; omega⟩ (i 1))

section Layer

variable (A : Dev nD → Vec F S256x512 .bf16) (B : Dev nD → Vec F S512x256 .bf16) (b : Dev nD → Vec F S512x256 .bf16)

/-- Slab `p` of the rows: the blocks of column `p`. -/
def slabOf (p : Fin 4) : Vec F S2048x256 .bf16 := tall (k := 4) (n := 512) (N := 2048) rfl (fun z => b (dv z p))
/-- Device `src`'s contribution to slab `q`. -/
def prodOf (src : Dev nD) (q : Fin 4) : Vec F S2048x256 .bf16 := k0_pay7 (A src) (B src) (slabOf b q)
/-- The plane's sum of the device's slab. -/
def csumOf (c : Dev nD) : Vec F S2048x256 .bf16 :=
  k0_pay14 (k0_pay12 (prodOf A B b c (pc c)) (upS (prodOf A B b (peer 2 c 0) (pc c)))) (k0_pay13 (upS (prodOf A B b (peer 2 c 1) (pc c)))) (upS (prodOf A B b (peer 2 c 2) (pc c)))
/-- The mesh's sum of the device's block. -/
def nextOf (c : Dev nD) : Vec F S512x256 .bf16 :=
  k0_pay15 (cpart (zc c) (csumOf A B b c)) (upB (cpart (zc c) (csumOf A B b (peer 3 c 0)))) (upB (cpart (zc c) (csumOf A B b (peer 3 c 1)))) (upB (cpart (zc c) (csumOf A B b (peer 3 c 2))))

end Layer

variable (I : Ins F)

/-- The devices' blocks of rows entering layer `r`. -/
def blk : ℕ → Dev nD → Vec F S512x256 .bf16
  | 0 => fun c => k0_pay4 (I.x c)
  | r + 1 => nextOf (I.wi r) (I.wo r) (blk r)

/-- Their slabs, contributions and planes' sums. -/
abbrev slab (r : ℕ) (p : Fin 4) : Vec F S2048x256 .bf16 := slabOf (blk I r) p
abbrev prod (r : ℕ) (src : Dev nD) (q : Fin 4) : Vec F S2048x256 .bf16 := prodOf (I.wi r) (I.wo r) (blk I r) src q
abbrev csum (r : ℕ) (c : Dev nD) : Vec F S2048x256 .bf16 := csumOf (I.wi r) (I.wo r) (blk I r) c

/-! ## The exchanges -/

/-- The shape an exchange moves, by its kind. -/
abbrev sh : Fin 4 → Shape
  | 0 => S512x256
  | 1 => S2048x256
  | 2 => S2048x256
  | 3 => S512x256

/-- What device `c` sends to its peer `e`, -/
abbrev srcM : (a : Fin 4) → Dev nD → Fin 3 → Memref sig .tc .vmem (sh a) .bf16
  | 0, c, _ => xrow (bk c)
  | 1, c, _ => xsl (pc c)
  | 2, c, e => psl (pc (peer 2 c e))
  | 3, c, e => cbk (zc (peer 3 c e))
/-- where what its peer `s` sends lands on device `q`, -/
abbrev dstM : (a : Fin 4) → Dev nD → Fin 3 → Memref sig .tc .vmem (sh a) .bf16
  | 0, q, s => xrow (bk (peer 0 q s))
  | 1, q, s => xsl (pc (peer 1 q s))
  | 2, _, s => prSlot s
  | 3, _, s => zrSlot s
/-- and what it holds. -/
abbrev val : (a : Fin 4) → ℕ → Dev nD → Dev nD → Vec F (sh a) .bf16
  | 0, r, src, _ => blk I r src
  | 1, r, src, _ => slab I r (pc src)
  | 2, r, src, dst => prod I r src (pc dst)
  | 3, r, src, dst => cpart (zc dst) (csum I r src)
/-- The units a transfer brings. -/
abbrev N (a : Fin 4) : ℕ := RefSig.tileCredit (sh a) .bf16
theorem N_pos (a : Fin 4) : 0 < N a := RefSig.tileCredit_pos _ _ (by revert a; decide)
/-- The share of its source a transfer holds: a third where all three read one place. -/
abbrev shq : Fin 4 → Fin 3 → PosShare TreeShare
  | 0, e => third e
  | 1, e => third e
  | 2, _ => fullShare
  | 3, _ => fullShare

/-- An exchange's kind by its number. -/
def ak (i : ℕ) : Fin 4 := ⟨i % 4, Nat.mod_lt _ (by decide)⟩
theorem ak_mul (a : Fin 4) (r : ℕ) : ak (4 * r + a.val) = a := Fin.ext (by show (4 * r + a.val) % 4 = a.val; omega)
theorem div_mul (a : Fin 4) (r : ℕ) : (4 * r + a.val) / 4 = r := by omega

/-! ## The cells -/

/-- A kernel semaphore: the barrier's, a send one, a receive one. -/
abbrev CK : Type := Option (Option (Fin 4) × Fin 3)
abbrev CK.bar : CK := none
abbrev CK.snd (e : Fin 3) : CK := some (none, e)
abbrev CK.rcv (a : Fin 4) (s : Fin 3) : CK := some (some a, s)

def loc : CK → SemLoc sig
  | none => .reg bsem
  | some (none, e) => .dma (ssem e)
  | some (some a, s) => .dma (rsem a s)

theorem loc_inj : Function.Injective loc := by decide +kernel
def kind (sm : SemLoc sig) : Option CK := Function.partialInv loc sm
theorem kind_loc (k : CK) : kind (loc k) = some k := Function.partialInv_left loc_inj k

abbrev cell (c : Dev nD) (k : CK) : GSem nD τ sig := ((c : Thread nD τ), loc k)

/-! ## What the units carry -/

/-- A place on device `q` its peer `s` may write, for layer `r`. -/
def hole (a : Fin 4) (r : ℕ) (q : Dev nD) (s : Fin 3) : sProp 𝕄 :=
  iprop((∃ v : Vec F (sh a) .bf16, ownsTc q (dstM a q s) fullShare v) ∗ reached ER (cell q (CK.rcv a s)) r)
/-- The place a transfer hands over with its data: the one the receiver next writes. -/
def nextHole : Fin 4 → ℕ → Dev nD → Fin 3 → sProp 𝕄
  | 0, r, q, s => if r < 3 then hole (F := F) 3 r q s else iprop(emp)
  | 1, r, q, s => if r < 3 then hole (F := F) 2 r q s else iprop(emp)
  | 2, r, q, s => hole (F := F) 1 (r + 1) q s
  | 3, r, q, s => hole (F := F) 0 (r + 1) q s

/-- A barrier unit hands over the first place of its direction. -/
def barKind : Fin 2 → Fin 4
  | 0 => 0
  | 1 => 1
def barPay (c : Dev nD) (d : Du) : sProp 𝕄 := hole (F := F) (barKind d.1) 0 (peer (barKind d.1) c d.2) (Fin.rev d.2)
/-- A sent part comes back, -/
def sndPay (c : Dev nD) (e : Fin 3) (a : Fin 4) (r : ℕ) : sProp 𝕄 := ownsTc c (srcM a c e) (shq a e) (val I a r c (peer a c e))
/-- and a received part arrives with the place the receiver next writes. -/
def rcvPay (c : Dev nD) (a : Fin 4) (s : Fin 3) (r : ℕ) : sProp 𝕄 :=
  iprop(ownsTc c (dstM a c s) fullShare (val I a r (peer a c s) c) ∗ nextHole (F := F) a r (peer a c s) (Fin.rev s))

instance hole_storable (a : Fin 4) (r : ℕ) (q : Dev nD) (s : Fin 3) : BI.Storable (upEmb : UEmb _ 𝕄) (hole (F := F) a r q s) := by unfold hole; infer_instance
instance nextHole_storable (a : Fin 4) (r : ℕ) (q : Dev nD) (s : Fin 3) : BI.Storable (upEmb : UEmb _ 𝕄) (nextHole (F := F) a r q s) := by
  match a with
  | 0 => show BI.Storable upEmb (if r < 3 then hole (F := F) 3 r q s else iprop(emp)); split_ifs <;> infer_instance
  | 1 => show BI.Storable upEmb (if r < 3 then hole (F := F) 2 r q s else iprop(emp)); split_ifs <;> infer_instance
  | 2 => unfold nextHole; infer_instance
  | 3 => unfold nextHole; infer_instance
instance barPay_storable (c : Dev nD) (d : Du) : BI.Storable (upEmb : UEmb _ 𝕄) (barPay (F := F) c d) := by unfold barPay; infer_instance
instance sndPay_storable (c : Dev nD) (e : Fin 3) (a : Fin 4) (r : ℕ) : BI.Storable (upEmb : UEmb _ 𝕄) (sndPay I c e a r) := by unfold sndPay; infer_instance
instance rcvPay_storable (c : Dev nD) (a : Fin 4) (s : Fin 3) (r : ℕ) : BI.Storable (upEmb : UEmb _ 𝕄) (rcvPay I c a s r) := by unfold rcvPay; infer_instance

/-! ## The schedule -/

def dutiesOf : Option CK → ℕ → Finset Du
  | some none, r => if r = 0 then Finset.univ else ∅
  | some (some (none, _)), r => if r < 14 then {(0, 0)} else ∅
  | some (some (some a, _)), r => if 4 * r + a.val < 14 then {(0, 0)} else ∅
  | none, _ => ∅
def amountOf : Option CK → ℕ → ℕ
  | some none, _ => 1
  | some (some (none, _)), r => N (ak r)
  | some (some (some a, _)), _ => N a
  | none, _ => 1
def payOf (c : Dev nD) : Option CK → ℕ → Du → sProp 𝕄
  | some none, _, d => barPay (F := F) c d
  | some (some (none, e)), r, _ => sndPay I c e (ak r) (r / 4)
  | some (some (some a, s)), r, _ => rcvPay I c a s r
  | none, _, _ => iprop(emp)

def Rd : Rounds.Schedule (GSem nD τ sig) Du 𝕄 where
  duties g r := dutiesOf (kind g.2) r
  unitless _ := False
  amount g r _ := amountOf (kind g.2) r
  payload g r d := payOf I g.1.1 (kind g.2) r d
  amount_pos g r _ _ := by
    show 0 < amountOf (kind g.2) r
    match kind g.2 with
    | some none => exact Nat.one_pos
    | some (some (none, _)) => exact N_pos (ak r)
    | some (some (some a, _)) => exact N_pos a
    | none => exact Nat.one_pos

instance Rd_storable (g : GSem nD τ sig) (r : ℕ) (d : Du) : BI.Storable (upEmb : UEmb _ 𝕄) ((Rd I).payload g r d) := by
  show BI.Storable upEmb (payOf I g.1.1 (kind g.2) r d)
  match kind g.2 with
  | some none => show BI.Storable upEmb (barPay g.1.1 d); infer_instance
  | some (some (none, e)) => show BI.Storable upEmb (sndPay I g.1.1 e (ak r) (r / 4)); infer_instance
  | some (some (some a, s)) => show BI.Storable upEmb (rcvPay I g.1.1 a s r); infer_instance
  | none => show BI.Storable upEmb iprop(emp); infer_instance

theorem duties_cell (c : Dev nD) (k : CK) (r : ℕ) : (Rd I).duties (cell c k) r = dutiesOf (some k) r := by
  show dutiesOf (kind (loc k)) r = _; rw [kind_loc]
theorem amount_cell (c : Dev nD) (k : CK) (r : ℕ) (d : Du) : (Rd I).amount (cell c k) r d = amountOf (some k) r := by
  show amountOf (kind (loc k)) r = _; rw [kind_loc]
theorem payload_cell (c : Dev nD) (k : CK) (r : ℕ) (d : Du) : (Rd I).payload (cell c k) r d = payOf I c (some k) r d := by
  show payOf I c (kind (loc k)) r d = _; rw [kind_loc]

section Facts
variable (c : Dev nD) (a : Fin 4) (r : ℕ) (e : Fin 3)

theorem duties_snd (h : 4 * r + a.val < 14) : (Rd I).duties (cell c (CK.snd e)) (4 * r + a.val) = {(0, 0)} := (duties_cell I c _ _).trans (if_pos h)
theorem duties_rcv (h : 4 * r + a.val < 14) : (Rd I).duties (cell c (CK.rcv a e)) r = {(0, 0)} := (duties_cell I c _ _).trans (if_pos h)
theorem duties_bar : (Rd I).duties (cell c CK.bar) 0 = Finset.univ := duties_cell I c CK.bar 0

theorem amount_snd (d : Du) : (Rd I).amount (cell c (CK.snd e)) (4 * r + a.val) d = N a :=
  (amount_cell I c _ _ d).trans (by show N (ak (4 * r + a.val)) = N a; rw [ak_mul])
theorem amount_rcv (d : Du) : (Rd I).amount (cell c (CK.rcv a e)) r d = N a := amount_cell I c _ _ d
theorem amount_bar (d : Du) : (Rd I).amount (cell c CK.bar) r d = 1 := amount_cell I c _ _ d

theorem payload_snd (d : Du) : (Rd I).payload (cell c (CK.snd e)) (4 * r + a.val) d = sndPay I c e a r :=
  (payload_cell I c _ _ d).trans (by show sndPay I c e (ak (4 * r + a.val)) ((4 * r + a.val) / 4) = _; rw [ak_mul, div_mul])
theorem payload_rcv (d : Du) : (Rd I).payload (cell c (CK.rcv a e)) r d = rcvPay I c a e r := payload_cell I c _ _ d
theorem payload_bar (d : Du) : (Rd I).payload (cell c CK.bar) r d = barPay (F := F) c d := payload_cell I c _ _ d

theorem expect_snd (h : 4 * r + a.val < 14) : (Rd I).expect (cell c (CK.snd e)) (4 * r + a.val) = N a := by
  unfold Schedule.expect Schedule.amountOf; rw [duties_snd I c a r e h, Finset.sum_singleton, amount_snd]
theorem expect_rcv (h : 4 * r + a.val < 14) : (Rd I).expect (cell c (CK.rcv a e)) r = N a := by
  unfold Schedule.expect Schedule.amountOf; rw [duties_rcv I c a r e h, Finset.sum_singleton, amount_rcv]
theorem expect_bar : (Rd I).expect (cell c CK.bar) 0 = 6 := by
  unfold Schedule.expect Schedule.amountOf; rw [duties_bar, Finset.sum_congr rfl fun d _ => amount_bar I c 0 d]; rfl

theorem rest_snd (h : 4 * r + a.val < 14) :
    bigSep ((Rd I).duties ((c : Thread nD τ), .dma (ssem e)) (4 * r + a.val) \ ∅) (fun d => (Rd I).payload ((c : Thread nD τ), .dma (ssem e)) (4 * r + a.val) d) = sndPay I c e a r := by
  rw [show ((c : Thread nD τ), SemLoc.dma (ssem e)) = cell c (CK.snd e) from rfl]
  rw [Finset.sdiff_empty, duties_snd I c a r e h, bigSep_singleton, payload_snd]
theorem rest_rcv (h : 4 * r + a.val < 14) :
    bigSep ((Rd I).duties ((c : Thread nD τ), .dma (rsem a e)) r \ ∅) (fun d => (Rd I).payload ((c : Thread nD τ), .dma (rsem a e)) r d) = rcvPay I c a e r := by
  rw [show ((c : Thread nD τ), SemLoc.dma (rsem a e)) = cell c (CK.rcv a e) from rfl]
  rw [Finset.sdiff_empty, duties_rcv I c a r e h, bigSep_singleton, payload_rcv]
theorem rest_bar :
    bigSep ((Rd I).duties ((c : Thread nD τ), .reg bsem) 0 \ ∅) (fun d => (Rd I).payload ((c : Thread nD τ), .reg bsem) 0 d) = bigSep Finset.univ (barPay (F := F) c) := by
  rw [show ((c : Thread nD τ), SemLoc.reg bsem) = cell c CK.bar from rfl]
  rw [Finset.sdiff_empty, duties_bar]; exact bigSep_congr fun d _ => payload_bar I c 0 d

end Facts

/-! ## What is owed, and the order of waiting -/

/-- What device `c` owes its peers in exchange `4 r + a`. -/
def due (c : Dev nD) (a : Fin 4) (r : ℕ) : CellTallies nD τ sig ℕ := ∑ e : Fin 3, tallyAt (cell (peer a c e) (CK.rcv a (Fin.rev e))) (4 * r + a.val + 2) (N a)
/-- What it owes from exchange `i` on. -/
def Orem (c : Dev nD) (i : ℕ) : CellTallies nD τ sig ℕ := ∑ j ∈ Finset.Ico i 14, due c (ak j) (j / 4)
/-- What it owes at the barrier. -/
def barDue (c : Dev nD) : CellTallies nD τ sig ℕ := ∑ d : Du, tallyAt (cell (peer (barKind d.1) c d.2) CK.bar) 1 1
def O₀ (c : Dev nD) : CellTallies nD τ sig ℕ := Orem c 0 + barDue c

theorem Orem_step (c : Dev nD) (a : Fin 4) (r : ℕ) (h : 4 * r + a.val < 14) : Orem c (4 * r + a.val) = Orem c (4 * r + a.val + 1) + due c a r := by
  unfold Orem; rw [Finset.sum_eq_sum_Ico_succ_bot h, ak_mul, div_mul, add_comm]
theorem Orem_end (c : Dev nD) : Orem c 14 = 0 := by unfold Orem; rw [Finset.Ico_self, Finset.sum_empty]

/-- Every core waits in the order of the indices. -/
def L (g : GSem nD τ sig) : Finset ℕ := if g.1.2 = .tc then Finset.range 20 else ∅
def lv (_ : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 20 := if_pos rfl

/-- What is owed sits above an index. -/
def Above (O : CellTallies nD τ sig ℕ) (i : ℕ) : Prop := ∀ g u, 0 < O g u → g.1.2 = .tc ∧ i < u ∧ u < 20

theorem Above.zero (i : ℕ) : Above 0 i := fun g u h => absurd h (Nat.lt_irrefl 0)
theorem Above.add {O O' : CellTallies nD τ sig ℕ} {i : ℕ} (h : Above O i) (h' : Above O' i) : Above (O + O') i := fun g u hp => by
  rw [Pi.add_apply, Finsupp.add_apply] at hp
  rcases Nat.pos_of_ne_zero (fun e => by omega : ¬ (O g u + O' g u = 0)) with _
  by_cases h0 : 0 < O g u
  · exact h g u h0
  · exact h' g u (by omega)
theorem Above.sum {ι : Type} (S : Finset ι) (f : ι → CellTallies nD τ sig ℕ) {i : ℕ} (h : ∀ j ∈ S, Above (f j) i) : Above (∑ j ∈ S, f j) i := by
  classical
  induction S using Finset.induction_on with
  | empty => rw [Finset.sum_empty]; exact Above.zero i
  | insert j S hj ih =>
    rw [Finset.sum_insert hj]
    exact (h j (Finset.mem_insert_self _ _)).add (ih fun t ht => h t (Finset.mem_insert_of_mem ht))
theorem Above.tally (c : Dev nD) (k : CK) (u n i : ℕ) (h : i < u) (h' : u < 20) : Above (tallyAt (cell c k) u n) i := fun g v hp => by
  rw [tallyAt_apply] at hp
  by_cases e : g = cell c k ∧ v = u
  · rw [e.1, e.2]; exact ⟨rfl, h, h'⟩
  · rw [if_neg e] at hp; exact absurd hp (Nat.lt_irrefl 0)
theorem Above.mono {O : CellTallies nD τ sig ℕ} {i j : ℕ} (hij : i ≤ j) (h : Above O j) : Above O i := fun g u hp => ⟨(h g u hp).1, lt_of_le_of_lt hij (h g u hp).2.1, (h g u hp).2.2⟩
theorem above_due (c : Dev nD) (a : Fin 4) (r : ℕ) (h : 4 * r + a.val < 14) (i : ℕ) (hi : i < 4 * r + a.val + 2) : Above (due c a r) i :=
  Above.sum _ _ fun e _ => Above.tally _ _ _ _ _ hi (by omega)
theorem above_Orem (c : Dev nD) (i : ℕ) : Above (Orem c i) (i + 1) := Above.sum _ _ fun j hj => by
  obtain ⟨h1, h2⟩ := Finset.mem_Ico.mp hj
  have hj' : 4 * (j / 4) + (ak j).val = j := by show 4 * (j / 4) + j % 4 = j; omega
  exact above_due c (ak j) (j / 4) (by omega) _ (by omega)
theorem above_bar (c : Dev nD) : Above (barDue c) 0 := Above.sum _ _ fun d _ => Above.tally _ _ _ _ _ (by decide) (by decide)
theorem above_O₀ (c : Dev nD) : Above (O₀ c) 0 := ((above_Orem c 0).mono (by decide)).add (above_bar c)

/-- A core may wait at an index below all it owes. -/
theorem mayWait (c : Dev nD) (sm : SemLoc sig) (i : ℕ) (hi : i < 20) (O : CellTallies nD τ sig ℕ) (hO : Above O i) :
    (levAts L lv : sProp 𝕄) ⊢ MayWait (c : Thread nD τ) sm i O :=
  MayOwe.of_cut (L := L) (lev := lv) i (fun p hp => by rw [Finset.mem_singleton.mp hp, L_tc]; exact Finset.mem_range.mpr hi)
    (fun g u hg => by
      obtain ⟨h1, -, h3⟩ := hO g u hg
      unfold L; rw [if_pos h1]; exact Finset.mem_range.mpr h3)
    (fun p hp => by rw [Finset.mem_singleton.mp hp]; exact Nat.le_refl _)
    (fun g u hg => (hO g u hg).2.1)

end Cert.KernelIdealProof

end
-- ==== Proof.KernelIdealExch.lean ====
module

public import proofs.«01_k».proof.Proof.KernelIdealSched

/-! # One exchange

Three parts sent, three parts received, three departures awaited. Every exchange of the kernel is this one, at its
kind and its layer. -/

@[expose] public section

set_option synthInstance.maxSize 4096

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rows (R at2 tall rows third)

variable {F : FTy → Type} [FloatOps F]

local notation "𝕄" => MT nD τ sig ℕ (Elt F) ℕ UU ℕ

abbrev 𝒱₀ : Variants := Variants.none

variable (I : Ins F) (K : Dev nD × CK → ℕ)

/-- Every cell's invariant. -/
def records : sProp 𝕄 := bigSep Finset.univ fun k : Dev nD × CK => cellInv ER (Rd I) (K k) (cell k.1 k.2)
instance records_persistent : BI.Persistent (records I K) := by unfold records; infer_instance
theorem record (c : Dev nD) (k : CK) : records I K ⊢ cellInv ER (Rd I) (K (c, k)) (cell c k) :=
  bigSep_elim (Φ := fun k : Dev nD × CK => cellInv ER (Rd I) (K k) (cell k.1 k.2)) (Finset.mem_univ (c, k))

/-- What a core owes, whatever it waits for. -/
def owing (c : Dev nD) (O : CellTallies nD τ sig ℕ) : sProp 𝕄 := iprop(∃ W, owes (c : Thread nD τ) O W)

/-- Three of a kind. -/
abbrev three (f : Fin 3 → sProp 𝕄) : sProp 𝕄 := iprop(f 0 ∗ f 1 ∗ f 2)
omit [FloatOps F] in
theorem bigSep_three (f : Fin 3 → sProp 𝕄) : bigSep Finset.univ f = three f := by
  refine (BI.bigSep_univ_eq_bigSepL [0, 1, 2] (by decide) (by decide) f).trans ?_
  rfl

/-- The tokens and the credits of exchange `4 r + a`. -/
def kit (c : Dev nD) (a : Fin 4) (r : ℕ) (e : Fin 3) : sProp 𝕄 :=
  iprop(dutyTok ER (cell c (CK.snd e)) (4 * r + a.val) (0, 0) ∗ dutyTok ER (cell (peer a c e) (CK.rcv a (Fin.rev e))) r (0, 0)
    ∗ cred (tallyAt (cell c (CK.rcv a e)) (4 * r + a.val + 2) (N a)))
/-- How far a cell's waits have gone. -/
def pos (c : Dev nD) (k : CK) (i : ℕ) : sProp 𝕄 := iprop(atPos ER (cell c k) i ∅ 0 ∗ reached ER (cell c k) i)

section One
variable (c : Dev nD) (a : Fin 4) (r : ℕ) (h : 4 * r + a.val < 14)

/-- One part sent. -/
theorem wp_put (e s : Fin 3) (hs : s = Fin.rev e) (n : Dev nD) (hn : n = peer a c e) (src dst : Memref sig .tc .vmem (sh a) .bf16)
    (hsrc : src = srcM a c e) (hdst : dst = dstM a (peer a c e) s)
    {hsc : (dst : Memref sig (Dev.tc n : Thread nD τ).2.kind .vmem (sh a) .bf16).view.ref.isScScratch = false}
    {hw : src.view.WordExact} {hw' : dst.view.WordExact}
    {hsem : DmaTarget.Typed .vmem (.dma (rsem a s)) (.remote (Dev.tc n : Thread nD τ) dst (.dma (ssem e)) hsc)}
    {α : Type} {Q : α → sProp 𝕄} {k : PUnit → Prog (TpuEff nD τ sig (Elt F) Λ₀ .tc) α}
    (h0 : 4 * r + a.val < 14) (O₀ O : CellTallies nD τ sig ℕ) (hO : O₀ = O + tallyAt (cell (peer a c e) (CK.rcv a (Fin.rev e))) (4 * r + a.val + 2) (N a)) :
    iprop(records I K ∗ sndPay I c e a r ∗ hole (F := F) a r (peer a c e) (Fin.rev e) ∗ nextHole (F := F) a r c e
        ∗ owing c O₀ ∗ dutyTok ER (cell c (CK.snd e)) (4 * r + a.val) (0, 0) ∗ reached ER (cell c (CK.snd e)) (4 * r + a.val)
        ∗ dutyTok ER (cell (peer a c e) (CK.rcv a (Fin.rev e))) r (0, 0))
      ⊢ iprop(((cred (tallyAt (cell c (CK.snd e)) (4 * r + a.val + 2) (N a)) ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (ssem e)) hsc) (.dma (rsem a s)) hw hw' hsem) k) Q) := by
  subst hs; subst hn; subst hsrc; subst hdst
  unfold sndPay hole owing
  iintro ⟨#HR, Hsrc, ⟨⟨%v, Hdst⟩, #Hrr⟩, HF, ⟨%W, HO⟩, Hts, #Hrs, Htr⟩ Hk
  ihave Hsrc := (show (ownsTc c (srcM a c e) (shq a e) (val I a r c (peer a c e)) : sProp 𝕄) ⊢ _ from by unfold ownsTc owns; exact BI.Entails.refl _) $$ Hsrc
  ihave Hdst := (show (ownsTc (peer a c e) (dstM a (peer a c e) (Fin.rev e)) fullShare v : sProp 𝕄) ⊢ _ from by unfold ownsTc owns; exact BI.Entails.refl _) $$ Hdst
  icases Hsrc with ⟨%fs, %hfs, Hsrc⟩
  icases Hdst with ⟨%fd, %hfd, Hdst⟩
  have hrule := Rounds.wp_send_pointsTo_with (defs := defs₀ (F := F)) (Γ := .empty) (Q := Q) (k := k) 𝒱₀ ER (Rd I) (c : Thread nD τ) none (c' := (peer a c e : Thread nD τ))
    (src := srcM a c e) (dst := dstM a (peer a c e) (Fin.rev e)) (hsc := hsc) (hsrc := hw) (hdst := hw') (hsem := hsem)
    (F := nextHole (F := F) a r c e) (q := shq a e) (fs := fs) (fd := fd)
    (κ₁ := K (c, CK.snd e)) (κ₂ := K (peer a c e, CK.rcv a (Fin.rev e))) (r₁ := 4 * r + a.val) (r₂ := r) (d₁ := (0, 0)) (d₂ := (0, 0))
    (by rw [show ((c : Thread nD τ), SemLoc.dma (ssem e)) = cell c (CK.snd e) from rfl, duties_snd I c a r e h0]; exact Finset.mem_singleton_self _)
    (by rw [show ((peer a c e : Thread nD τ), SemLoc.dma (rsem a (Fin.rev e))) = cell (peer a c e) (CK.rcv a (Fin.rev e)) from rfl, duties_rcv I _ a r _ h0]; exact Finset.mem_singleton_self _)
    (4 * r + a.val + 2) (4 * r + a.val + 2) (N a) rfl (amount_snd I c a r e _) (amount_rcv I (peer a c e) a r (Fin.rev e) _) O hO (W := W)
    (by
      rw [show ((c : Thread nD τ), SemLoc.dma (ssem e)) = cell c (CK.snd e) from rfl, payload_snd]
      unfold sndPay ownsTc; rw [← hfs]; exact owns_intro _ _ _ _)
    (by
      rw [show ((peer a c e : Thread nD τ), SemLoc.dma (rsem a (Fin.rev e))) = cell (peer a c e) (CK.rcv a (Fin.rev e)) from rfl, payload_rcv]
      unfold rcvPay; rw [peer_peer, Fin.rev_rev]
      refine sep_mono_left ?_
      rw [← hfs]
      refine (owns_intro (peer a c e : Thread nD τ) (dstM a (peer a c e) (Fin.rev e)) fullShare _).trans (Entails.of_eq ?_)
      rw [View.read_write_univ])
    (Es := Set.univ)
  iapply hrule $$ [Hsrc Hdst HF HO Hts Htr]
  · isplitr; · iapply (record I K c (CK.snd e)); iexact HR
    isplitr; · iapply (record I K (peer a c e) (CK.rcv a (Fin.rev e))); iexact HR
    isplitl [Hsrc]; · iexact Hsrc
    isplitl [Hdst HF]
    · isplitl [Hdst]; · iexact Hdst
      iexact HF
    isplitl [HO]; · iexact HO
    isplitl [Hts]; · iexact Hts
    isplitr; · iexact Hrs
    isplitl [Htr]; · iexact Htr
    iexact Hrr
  iintro ⟨Hc, HO⟩
  iapply Hk $$ [Hc HO]
  isplitl [Hc]; · iexact Hc
  iexists W; iexact HO

/-- One arrival awaited. -/
theorem wp_take_rcv (s : Fin 3) (p p' : Memref sig .tc .vmem (sh a) .bf16) {hw : p.view.WordExact} {hw' : p'.view.WordExact}
    {α : Type} {Q : α → sProp 𝕄} {k : PUnit → Prog (TpuEff nD τ sig (Elt F) Λ₀ .tc) α}
    (h0 : 4 * r + a.val < 14) (O : CellTallies nD τ sig ℕ) (hO : Above O (4 * r + a.val + 2)) :
    iprop(records I K ∗ levAts L lv ∗ cred (tallyAt (cell c (CK.rcv a s)) (4 * r + a.val + 2) (N a)) ∗ owing c O ∗ pos (F := F) c (CK.rcv a s) r)
      ⊢ iprop(((owing c O ∗ pos (F := F) c (CK.rcv a s) (r + 1) ∗ rcvPay I c a s r) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rsem a s) p p' hw hw') k) Q) := by
  unfold owing pos
  iintro ⟨#HR, #Hlev, Hc, ⟨%W, HO⟩, Hat, -⟩ Hk
  have hrule := Rounds.wp_wait_rest_token (defs := defs₀ (F := F)) (Γ := .empty) (Q := Q) (k := k) 𝒱₀ ER (Rd I) (c : Thread nD τ) none (sm := .dma (rsem a s)) (κ := K (c, CK.rcv a s))
      (wpE_waitDma2_eq (defs := defs₀ (F := F)) 𝒱₀ (c : Thread nD τ) none Set.univ (src := p) (dst := p') (hsrc := hw) (hdst := hw')) (Set.mem_univ _) (4 * r + a.val + 2) (O := O) (W := W) (R := r) (m := 0) (T := ∅)
      (by rw [Nat.zero_add]; exact (expect_rcv I c a r s h0).symm)
  iapply hrule $$ [Hc HO Hat]
  · isplitr; · iapply (record I K c (CK.rcv a s)); iexact HR
    isplitl [Hc]; · iexact Hc
    isplitl [HO]; · iexact HO
    isplitr; · iapply (mayWait c (.dma (rsem a s)) (4 * r + a.val + 2) (by omega) O hO); iexact Hlev
    iexact Hat
  iintro ⟨HO, Hat, #Hre, Hpay⟩
  ihave Hp := (Entails.of_eq (rest_rcv I c a r s h0)) $$ Hpay
  iapply Hk
  isplitl [HO]; · iexists _; iexact HO
  isplitl [Hat]
  · isplitl [Hat]; · iexact Hat
    iexact Hre
  iexact Hp

/-- One departure awaited. -/
theorem wp_take_snd (e : Fin 3) (p p' : Memref sig .tc .vmem (sh a) .bf16) {hw : p.view.WordExact} {hw' : p'.view.WordExact}
    {α : Type} {Q : α → sProp 𝕄} {k : PUnit → Prog (TpuEff nD τ sig (Elt F) Λ₀ .tc) α}
    (h0 : 4 * r + a.val < 14) (O : CellTallies nD τ sig ℕ) (hO : Above O (4 * r + a.val + 2)) :
    iprop(records I K ∗ levAts L lv ∗ cred (tallyAt (cell c (CK.snd e)) (4 * r + a.val + 2) (N a)) ∗ owing c O ∗ atPos ER (cell c (CK.snd e)) (4 * r + a.val) ∅ 0)
      ⊢ iprop(((owing c O ∗ pos (F := F) c (CK.snd e) (4 * r + a.val + 1) ∗ sndPay I c e a r) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ssem e) p p' hw hw') k) Q) := by
  unfold owing pos
  iintro ⟨#HR, #Hlev, Hc, ⟨%W, HO⟩, Hat⟩ Hk
  have hrule := Rounds.wp_wait_rest_token (defs := defs₀ (F := F)) (Γ := .empty) (Q := Q) (k := k) 𝒱₀ ER (Rd I) (c : Thread nD τ) none (sm := .dma (ssem e)) (κ := K (c, CK.snd e))
      (wpE_waitDma2_eq (defs := defs₀ (F := F)) 𝒱₀ (c : Thread nD τ) none Set.univ (src := p) (dst := p') (hsrc := hw) (hdst := hw')) (Set.mem_univ _) (4 * r + a.val + 2) (O := O) (W := W) (R := 4 * r + a.val) (m := 0) (T := ∅)
      (by rw [Nat.zero_add]; exact (expect_snd I c a r e h0).symm)
  iapply hrule $$ [Hc HO Hat]
  · isplitr; · iapply (record I K c (CK.snd e)); iexact HR
    isplitl [Hc]; · iexact Hc
    isplitl [HO]; · iexact HO
    isplitr; · iapply (mayWait c (.dma (ssem e)) (4 * r + a.val + 2) (by omega) O hO); iexact Hlev
    iexact Hat
  iintro ⟨HO, Hat, #Hre, Hpay⟩
  ihave Hp := (Entails.of_eq (rest_snd I c a r e h0)) $$ Hpay
  iapply Hk
  isplitl [HO]; · iexists _; iexact HO
  isplitl [Hat]
  · isplitl [Hat]; · iexact Hat
    iexact Hre
  iexact Hp

end One

/-- The three debts of an exchange, one by one. -/
theorem due_three (c : Dev nD) (a : Fin 4) (r : ℕ) : due c a r =
    tallyAt (cell (peer a c 2) (CK.rcv a (Fin.rev 2))) (4 * r + a.val + 2) (N a) + tallyAt (cell (peer a c 1) (CK.rcv a (Fin.rev 1))) (4 * r + a.val + 2) (N a)
      + tallyAt (cell (peer a c 0) (CK.rcv a (Fin.rev 0))) (4 * r + a.val + 2) (N a) := by
  unfold due
  rw [Fin.sum_univ_three, add_comm, add_comm (tallyAt (cell (peer a c 0) _) _ _), ← add_assoc]

set_option maxHeartbeats 1600000 in
/-- One exchange: the parts sent come back, the parts received arrive, each with the place its sender hands over. -/
theorem wp_exch (c : Dev nD) (a : Fin 4) (r : ℕ) (h0 : 4 * r + a.val < 14) (n : Fin 3 → Dev nD) (src dst wr ws : Fin 3 → Memref sig .tc .vmem (sh a) .bf16)
    (hwsrc : ∀ e, (src e).view.WordExact) (hwdst : ∀ e, (dst e).view.WordExact) (hwwr : ∀ e, (wr e).view.WordExact) (hwws : ∀ e, (ws e).view.WordExact)
    (hn : ∀ e, n e = peer a c e) (hsrc : ∀ e, src e = srcM a c e) (hdst : ∀ e, dst (Fin.rev e) = dstM a (peer a c e) (Fin.rev e))
    {Q : PUnit → sProp 𝕄} :
    iprop(records I K ∗ levAts L lv ∗ owing c (Orem c (4 * r + a.val))
        ∗ three (kit (F := F) c a r) ∗ three (fun e => pos (F := F) c (CK.snd e) (4 * r + a.val)) ∗ three (fun s => pos (F := F) c (CK.rcv a s) r)
        ∗ three (fun e => sndPay I c e a r) ∗ three (fun e => hole (F := F) a r (peer a c e) (Fin.rev e)) ∗ three (nextHole (F := F) a r c))
      ⊢ iprop(((owing c (Orem c (4 * r + a.val + 1))
          ∗ three (fun e => pos (F := F) c (CK.snd e) (4 * r + a.val + 1)) ∗ three (fun s => pos (F := F) c (CK.rcv a s) (r + 1))
          ∗ three (fun e => sndPay I c e a r) ∗ three (fun s => rcvPay I c a s r)) -∗ Q ⟨⟩)
        -∗ wp frame (wpE (defs₀ (F := F)) 𝒱₀ (c : Thread nD τ) none) Set.univ (exch a n src dst wr ws hwsrc hwdst hwwr hwws) Q) := by
  have hab : Above (Orem c (4 * r + a.val + 1)) (4 * r + a.val + 2) := above_Orem c _
  unfold exch
  simp only [Prog.lift, Prog.bind_op, Prog.bind_ret, Prog.pure_eq_ret]
  rw [Orem_step c a r h0, due_three]
  unfold kit
  iintro ⟨#HR, #Hlev, HO, ⟨⟨Hts0, Htr0, Hc0⟩, ⟨Hts1, Htr1, Hc1⟩, ⟨Hts2, Htr2, Hc2⟩⟩, ⟨Hp0, Hp1, Hp2⟩, ⟨Hq0, Hq1, Hq2⟩, ⟨Hs0, Hs1, Hs2⟩, ⟨Hh0, Hh1, Hh2⟩, ⟨Hf0, Hf1, Hf2⟩⟩ Hk
  ihave Hp0 := (show pos (F := F) c (CK.snd 0) (4 * r + a.val) ⊢ _ from by unfold pos; exact BI.Entails.refl _) $$ Hp0
  ihave Hp1 := (show pos (F := F) c (CK.snd 1) (4 * r + a.val) ⊢ _ from by unfold pos; exact BI.Entails.refl _) $$ Hp1
  ihave Hp2 := (show pos (F := F) c (CK.snd 2) (4 * r + a.val) ⊢ _ from by unfold pos; exact BI.Entails.refl _) $$ Hp2
  icases Hp0 with ⟨Hp0, #Hr0⟩
  icases Hp1 with ⟨Hp1, #Hr1⟩
  icases Hp2 with ⟨Hp2, #Hr2⟩
  have hp0 := fun k => wp_put (Q := Q) (k := k) I K c a r 0 2 rfl (n 0) (hn 0) (src 0) (dst 2) (hsrc 0) (hdst 0) (hsc := rfl) (hw := hwsrc 0) (hw' := hwdst 2) (hsem := ⟨⟨rfl, Or.inl rfl⟩, trivial⟩) h0
    (Orem c (4 * r + a.val + 1) + (tallyAt (cell (peer a c 2) (CK.rcv a (Fin.rev 2))) (4 * r + a.val + 2) (N a) + tallyAt (cell (peer a c 1) (CK.rcv a (Fin.rev 1))) (4 * r + a.val + 2) (N a)
      + tallyAt (cell (peer a c 0) (CK.rcv a (Fin.rev 0))) (4 * r + a.val + 2) (N a)))
    (Orem c (4 * r + a.val + 1) + tallyAt (cell (peer a c 2) (CK.rcv a (Fin.rev 2))) (4 * r + a.val + 2) (N a) + tallyAt (cell (peer a c 1) (CK.rcv a (Fin.rev 1))) (4 * r + a.val + 2) (N a))
    (by rw [← add_assoc, ← add_assoc])
  have hp1 := fun k => wp_put (Q := Q) (k := k) I K c a r 1 1 rfl (n 1) (hn 1) (src 1) (dst 1) (hsrc 1) (hdst 1) (hsc := rfl) (hw := hwsrc 1) (hw' := hwdst 1) (hsem := ⟨⟨rfl, Or.inl rfl⟩, trivial⟩) h0
    (Orem c (4 * r + a.val + 1) + tallyAt (cell (peer a c 2) (CK.rcv a (Fin.rev 2))) (4 * r + a.val + 2) (N a) + tallyAt (cell (peer a c 1) (CK.rcv a (Fin.rev 1))) (4 * r + a.val + 2) (N a))
    (Orem c (4 * r + a.val + 1) + tallyAt (cell (peer a c 2) (CK.rcv a (Fin.rev 2))) (4 * r + a.val + 2) (N a)) rfl
  have hp2 := fun k => wp_put (Q := Q) (k := k) I K c a r 2 0 rfl (n 2) (hn 2) (src 2) (dst 0) (hsrc 2) (hdst 2) (hsc := rfl) (hw := hwsrc 2) (hw' := hwdst 0) (hsem := ⟨⟨rfl, Or.inl rfl⟩, trivial⟩) h0
    (Orem c (4 * r + a.val + 1) + tallyAt (cell (peer a c 2) (CK.rcv a (Fin.rev 2))) (4 * r + a.val + 2) (N a)) (Orem c (4 * r + a.val + 1)) rfl
  iapply (hp0 _) $$ [Hs0 Hh0 Hf0 HO Hts0 Htr0]
  · isplitr; · iexact HR
    isplitl [Hs0]; · iexact Hs0
    isplitl [Hh0]; · iexact Hh0
    isplitl [Hf0]; · iexact Hf0
    isplitl [HO]; · iexact HO
    isplitl [Hts0]; · iexact Hts0
    isplitr; · iexact Hr0
    iexact Htr0
  iintro ⟨Hd0, HO⟩
  iapply (hp1 _) $$ [Hs1 Hh1 Hf1 HO Hts1 Htr1]
  · isplitr; · iexact HR
    isplitl [Hs1]; · iexact Hs1
    isplitl [Hh1]; · iexact Hh1
    isplitl [Hf1]; · iexact Hf1
    isplitl [HO]; · iexact HO
    isplitl [Hts1]; · iexact Hts1
    isplitr; · iexact Hr1
    iexact Htr1
  iintro ⟨Hd1, HO⟩
  iapply (hp2 _) $$ [Hs2 Hh2 Hf2 HO Hts2 Htr2]
  · isplitr; · iexact HR
    isplitl [Hs2]; · iexact Hs2
    isplitl [Hh2]; · iexact Hh2
    isplitl [Hf2]; · iexact Hf2
    isplitl [HO]; · iexact HO
    isplitl [Hts2]; · iexact Hts2
    isplitr; · iexact Hr2
    iexact Htr2
  iintro ⟨Hd2, HO⟩
  iapply (wp_take_rcv I K c a r 0 (wr 0) (wr 0) h0 _ hab) $$ [Hc0 HO Hq0]
  · isplitr; · iexact HR
    isplitr; · iexact Hlev
    isplitl [Hc0]; · iexact Hc0
    isplitl [HO]; · iexact HO
    iexact Hq0
  iintro ⟨HO, Hq0, Hv0⟩
  iapply (wp_take_rcv I K c a r 1 (wr 1) (wr 1) h0 _ hab) $$ [Hc1 HO Hq1]
  · isplitr; · iexact HR
    isplitr; · iexact Hlev
    isplitl [Hc1]; · iexact Hc1
    isplitl [HO]; · iexact HO
    iexact Hq1
  iintro ⟨HO, Hq1, Hv1⟩
  iapply (wp_take_rcv I K c a r 2 (wr 2) (wr 2) h0 _ hab) $$ [Hc2 HO Hq2]
  · isplitr; · iexact HR
    isplitr; · iexact Hlev
    isplitl [Hc2]; · iexact Hc2
    isplitl [HO]; · iexact HO
    iexact Hq2
  iintro ⟨HO, Hq2, Hv2⟩
  iapply (wp_take_snd I K c a r 0 (ws 2) (src 0) h0 _ hab) $$ [Hd0 HO Hp0]
  · isplitr; · iexact HR
    isplitr; · iexact Hlev
    isplitl [Hd0]; · iexact Hd0
    isplitl [HO]; · iexact HO
    iexact Hp0
  iintro ⟨HO, Hp0, Hs0⟩
  iapply (wp_take_snd I K c a r 1 (ws 1) (src 1) h0 _ hab) $$ [Hd1 HO Hp1]
  · isplitr; · iexact HR
    isplitr; · iexact Hlev
    isplitl [Hd1]; · iexact Hd1
    isplitl [HO]; · iexact HO
    iexact Hp1
  iintro ⟨HO, Hp1, Hs1⟩
  iapply (wp_take_snd I K c a r 2 (ws 0) (src 2) h0 _ hab) $$ [Hd2 HO Hp2]
  · isplitr; · iexact HR
    isplitr; · iexact Hlev
    isplitl [Hd2]; · iexact Hd2
    isplitl [HO]; · iexact HO
    iexact Hp2
  iintro ⟨HO, Hp2, Hs2⟩
  rw [wp_ret]
  imodintro
  iapply Hk
  isplitl [HO]; · iexact HO
  isplitl [Hp0 Hp1 Hp2]
  · isplitl [Hp0]; · iexact Hp0
    isplitl [Hp1]; · iexact Hp1
    iexact Hp2
  isplitl [Hq0 Hq1 Hq2]
  · isplitl [Hq0]; · iexact Hq0
    isplitl [Hq1]; · iexact Hq1
    iexact Hq2
  isplitl [Hs0 Hs1 Hs2]
  · isplitl [Hs0]; · iexact Hs0
    isplitl [Hs1]; · iexact Hs1
    iexact Hs2
  isplitl [Hv0]; · iexact Hv0
  isplitl [Hv1]; · iexact Hv1
  iexact Hv2

end Cert.KernelIdealProof

end
-- ==== Proof.KernelIdealPhases.lean ====
module

public import proofs.«01_k».proof.Proof.KernelIdealExch

/-! # The computing phases

What each phase between two exchanges reads, and what it leaves. -/

@[expose] public section

set_option synthInstance.maxSize 4096

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rows (R at2 tall rows third anyOf)

variable {F : FTy → Type} [FloatOps F]

local notation "𝕄" => MT nD τ sig ℕ (Elt F) ℕ UU ℕ

/-- A memref of device `c` at known contents, and at any. -/
abbrev own (c : Dev nD) {sh : Shape} {e : EltTy} (m : Memref sig .tc .vmem sh e) (X : Vec F sh e) : sProp 𝕄 := ownsTc c m fullShare X
abbrev free (c : Dev nD) {sh : Shape} {e : EltTy} (m : Memref sig .tc .vmem sh e) : sProp 𝕄 := anyOf (c : Thread nD τ) m

theorem free_intro (c : Dev nD) {sh : Shape} {e : EltTy} (m : Memref sig .tc .vmem sh e) (X : Vec F sh e) : own c m X ⊢ free (F := F) c m :=
  Rows.anyOf_intro (c : Thread nD τ) m X

section Ops
variable (c : Dev nD) {sh : Shape} {e : EltTy}

theorem ld {α : Type} {Q : α → sProp 𝕄} {m : Memref sig .tc .vmem sh e} {r : Rect sh} {hl : m.view.LoadsAt r.toLoadRect} {k : (r.shape.Idx → Elt F e) → Prog (TpuEff nD τ sig (Elt F) Λ₀ .tc) α}
    (p : Memref sig .tc .vmem r.shape e) {q : PosShare TreeShare} {X : r.shape.Idx → Elt F e} {hr : ∀ a, r.stride a = 1} (hp : p = m.slice r hr) :
    (ownsTc c p q X : sProp 𝕄)
      ⊢ iprop((ownsTc c p q X -∗ wp frame (wpE (defs₀ (F := F)) 𝒱₀ (c : Thread nD τ) none) Set.univ (k X) Q)
        -∗ wp frame (wpE (defs₀ (F := F)) 𝒱₀ (c : Thread nD τ) none) Set.univ (.op (.load m r.toLoadRect hl) k) Q) :=
  Rows.load_part (defs := defs₀ (F := F)) (Γ := .empty) 𝒱₀ (c : Thread nD τ) none Set.univ p hp

theorem st {α : Type} {Q : α → sProp 𝕄} {m : Memref sig .tc .vmem sh e} {r : Rect sh} {w : r.shape.Idx → Elt F e} {hx : (m.access r).Stores Finset.univ} {hm : Finset.univ = Finset.univ ∨ ∀ a, r.stride a = 1}
    {k : PUnit → Prog (TpuEff nD τ sig (Elt F) Λ₀ .tc) α}
    (p : Memref sig .tc .vmem r.shape e) {X : r.shape.Idx → Elt F e} {hr : ∀ a, r.stride a = 1} (hp : p = m.slice r hr) :
    (ownsTc c p fullShare X : sProp 𝕄)
      ⊢ iprop((ownsTc c p fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) :=
  Rows.store_part (defs := defs₀ (F := F)) (Γ := .empty) 𝒱₀ (c : Thread nD τ) none Set.univ p hp

/-- A load of a whole memref. -/
theorem ld_whole {α : Type} {Q : α → sProp 𝕄} (m : Memref sig .tc .vmem sh e) {off : Fin sh.rank → ℕ} (h0 : off = fun _ => 0) {h : ∀ a, off a + sh.size a ≤ sh.size a}
    {hl : m.view.LoadsAt (Rect.unit (s := sh) off sh.size h).toLoadRect} {k : (sh.Idx → Elt F e) → Prog (TpuEff nD τ sig (Elt F) Λ₀ .tc) α}
    {q : PosShare TreeShare} {X : sh.Idx → Elt F e} :
    (ownsTc c m q X : sProp 𝕄)
      ⊢ iprop((ownsTc c m q X -∗ wp frame (wpE (defs₀ (F := F)) 𝒱₀ (c : Thread nD τ) none) Set.univ (k X) Q)
        -∗ wp frame (wpE (defs₀ (F := F)) 𝒱₀ (c : Thread nD τ) none) Set.univ (.op (.load m (Rect.unit (s := sh) off sh.size h).toLoadRect hl) k) Q) := by
  unfold ownsTc
  rw [← Rows.owns_full (c : Thread nD τ) m q h0 h X]
  exact ld c (m := m) (r := Rect.unit (s := sh) off sh.size h) (k := k) _ (hr := fun _ => rfl) rfl

/-- A store over a whole memref. -/
theorem st_whole {α : Type} {Q : α → sProp 𝕄} (m : Memref sig .tc .vmem sh e) {off : Fin sh.rank → ℕ} (h0 : off = fun _ => 0) {h : ∀ a, off a + sh.size a ≤ sh.size a}
    {w : sh.Idx → Elt F e} {hx : (m.access (Rect.unit (s := sh) off sh.size h)).Stores Finset.univ} {hm : Finset.univ = Finset.univ ∨ ∀ a, (Rect.unit (s := sh) off sh.size h).stride a = 1}
    {k : PUnit → Prog (TpuEff nD τ sig (Elt F) Λ₀ .tc) α} {X : sh.Idx → Elt F e} :
    (ownsTc c m fullShare X : sProp 𝕄)
      ⊢ iprop((ownsTc c m fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit (s := sh) off sh.size h) w Finset.univ hx hm) k) Q) := by
  unfold ownsTc
  rw [← Rows.owns_full (c : Thread nD τ) m fullShare h0 h X, ← Rows.owns_full (c : Thread nD τ) m fullShare h0 h w]
  exact st c (m := m) (r := Rect.unit (s := sh) off sh.size h) (k := k) _ (hr := fun _ => rfl) rfl

end Ops

section OpsR
variable (c : Dev nD) {e : EltTy} {N n : ℕ}

/-- A load of a band of rows, -/
theorem ldR {α : Type} {Q : α → sProp 𝕄} (m : Memref sig .tc .vmem (R N) e) (o : ℕ) {h' : ∀ a, (![o, 0] : Fin 2 → ℕ) a + (R n).size a ≤ (R N).size a} {off : Fin 2 → ℕ} (ho : ![o, 0] = off)
    {h : ∀ a, off a + (R n).size a ≤ (R N).size a} {hl : m.view.LoadsAt (Rect.unit (s := R N) off (R n).size h).toLoadRect}
    {k : ((R n).Idx → Elt F e) → Prog (TpuEff nD τ sig (Elt F) Λ₀ .tc) α} {q : PosShare TreeShare} {X : (R n).Idx → Elt F e} :
    (ownsTc c (rows m n o h') q X : sProp 𝕄)
      ⊢ iprop((ownsTc c (rows m n o h') q X -∗ wp frame (wpE (defs₀ (F := F)) 𝒱₀ (c : Thread nD τ) none) Set.univ (k X) Q)
        -∗ wp frame (wpE (defs₀ (F := F)) 𝒱₀ (c : Thread nD τ) none) Set.univ (.op (.load m (Rect.unit (s := R N) off (R n).size h).toLoadRect hl) k) Q) := by
  subst ho
  exact ld c (m := m) (r := Rect.unit (s := R N) ![o, 0] (R n).size h) (k := k) (rows m n o h') (hr := fun _ => rfl) rfl

/-- and a store over one. -/
theorem stR {α : Type} {Q : α → sProp 𝕄} (m : Memref sig .tc .vmem (R N) e) (o : ℕ) {h' : ∀ a, (![o, 0] : Fin 2 → ℕ) a + (R n).size a ≤ (R N).size a} {off : Fin 2 → ℕ} (ho : ![o, 0] = off)
    {h : ∀ a, off a + (R n).size a ≤ (R N).size a} {w : (R n).Idx → Elt F e} {hx : (m.access (Rect.unit (s := R N) off (R n).size h)).Stores Finset.univ}
    {hm : Finset.univ = Finset.univ ∨ ∀ a, (Rect.unit (s := R N) off (R n).size h).stride a = 1}
    {k : PUnit → Prog (TpuEff nD τ sig (Elt F) Λ₀ .tc) α} {X : (R n).Idx → Elt F e} :
    (ownsTc c (rows m n o h') fullShare X : sProp 𝕄)
      ⊢ iprop((ownsTc c (rows m n o h') fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit (s := R N) off (R n).size h) w Finset.univ hx hm) k) Q) := by
  subst ho
  exact st c (m := m) (r := Rect.unit (s := R N) ![o, 0] (R n).size h) (k := k) (rows m n o h') (hr := fun _ => rfl) rfl

end OpsR

theorem zero2 : (![0, 0] : Fin 2 → ℕ) = fun _ => 0 := by decide

/-- The device's own rows, wherever a phase reads or writes them. -/
theorem xown_off (d : Dev nD) : ![512 * (bk d).val, 0] = k0_off1 d :=
  (show ![512 * (bk d).val, 0] = ![2048 * (d.val % 4) + 512 * (d.val / 4), 0] by
    rw [show 512 * (bk d).val = 2048 * (d.val % 4) + 512 * (d.val / 4) by show 512 * (4 * (d.val % 4) + d.val / 4) = _; omega]).trans (k0_off1_eq d).symm

/-- The device's own rows stored. -/
theorem wp_init (c : Dev nD) (q : PosShare TreeShare) (X : Vec F S512x256 .bf16) {Q : PUnit → sProp 𝕄} :
    iprop(ownsTc c xM q X ∗ free (F := F) c (xrow (bk c)))
      ⊢ iprop(((ownsTc c xM q X ∗ own c (xrow (bk c)) (k0_pay4 X)) -∗ Q ⟨⟩)
        -∗ wp frame (wpE (defs₀ (F := F)) 𝒱₀ (c : Thread nD τ) none) Set.univ (initP c) Q) := by
  unfold initP free anyOf
  simp only [Prog.lift, Prog.bind_op, Prog.bind_ret, Prog.pure_eq_ret]
  iintro ⟨Hx, ⟨%v, Hr⟩⟩ Hk
  iapply (ld_whole c xM zero2) $$ Hx
  iintro Hx
  iapply (ldR c (N := 8192) (n := 512) xf (512 * (bk c).val) (xown_off c)) $$ Hr
  iintro Hr
  iapply (stR c (N := 8192) (n := 512) xf (512 * (bk c).val) (xown_off c)) $$ Hr
  iintro Hr
  rw [wp_ret]
  imodintro
  iapply Hk
  isplitl [Hx]; · iexact Hx
  iexact Hr

/-- A quarter of the rows times the weights. -/
theorem wp_chunk (c : Dev nD) (p : Fin 4) (off : Fin 2 → ℕ) (ho : ![2048 * p.val, 0] = off) {h : ∀ a, off a + S2048x256.size a ≤ S8192x256.size a}
    (f : Vec F S2048x256 .bf16 → Vec F S2048x256 .bf16) (X : Vec F S2048x256 .bf16)
    {hl : (xf.view).LoadsAt (Rect.unit (s := S8192x256) off S2048x256.size h).toLoadRect} {hl' : (pb.view).LoadsAt (Rect.unit (s := S8192x256) off S2048x256.size h).toLoadRect}
    {hx : (pb.access (Rect.unit (s := S8192x256) off S2048x256.size h)).Stores Finset.univ} {hm : Finset.univ = Finset.univ ∨ ∀ a, (Rect.unit (s := S8192x256) off S2048x256.size h).stride a = 1}
    {Q : PUnit → sProp 𝕄} {k : PUnit → Prog (TpuEff nD τ sig (Elt F) Λ₀ .tc) PUnit} :
    iprop(own c (xsl p) X ∗ free (F := F) c (psl p))
      ⊢ iprop(((own c (xsl p) X ∗ own c (psl p) (f X)) -∗ wp frame (wpE (defs₀ (F := F)) 𝒱₀ (c : Thread nD τ) none) Set.univ (k ⟨⟩) Q)
        -∗ wp frame (wpE (defs₀ (F := F)) 𝒱₀ (c : Thread nD τ) none) Set.univ
          (.op (.load xf (Rect.unit (s := S8192x256) off S2048x256.size h).toLoadRect hl) fun x =>
            .op (.load pb (Rect.unit (s := S8192x256) off S2048x256.size h).toLoadRect hl') fun _ =>
            .op (.store pb (Rect.unit (s := S8192x256) off S2048x256.size h) (f x) Finset.univ hx hm) k) Q) := by
  unfold free anyOf
  iintro ⟨Hx, ⟨%v, Hr⟩⟩ Hk
  iapply (ldR c (N := 8192) (n := 2048) xf (2048 * p.val) ho) $$ Hx
  iintro Hx
  iapply (ldR c (N := 8192) (n := 2048) pb (2048 * p.val) ho) $$ Hr
  iintro Hr
  iapply (stR c (N := 8192) (n := 2048) pb (2048 * p.val) ho) $$ Hr
  iintro Hr
  iapply Hk
  isplitl [Hx]; · iexact Hx
  iexact Hr

omit [FloatOps F] in
theorem bigSep_four (f : Fin 4 → sProp 𝕄) : bigSep Finset.univ f = iprop(f 0 ∗ f 1 ∗ f 2 ∗ f 3) := by
  refine (BI.bigSep_univ_eq_bigSepL [0, 1, 2, 3] (by decide) (by decide) f).trans ?_
  rfl

/-- A layer's products. -/
theorem wp_comp (c : Dev nD) (wi : Memref sig .tc .vmem S256x512 .bf16) (wo : Memref sig .tc .vmem S512x256 .bf16) (q : PosShare TreeShare)
    (A : Vec F S256x512 .bf16) (B : Vec F S512x256 .bf16) (X : Fin 4 → Vec F S2048x256 .bf16) {Q : PUnit → sProp 𝕄} :
    iprop(ownsTc c wi q A ∗ ownsTc c wo q B ∗ (bigSep Finset.univ fun p => own c (xsl p) (X p)) ∗ (bigSep Finset.univ fun p => free (F := F) c (psl p)))
      ⊢ iprop(((ownsTc c wi q A ∗ ownsTc c wo q B ∗ (bigSep Finset.univ fun p => own c (xsl p) (X p)) ∗ (bigSep Finset.univ fun p => own c (psl p) (k0_pay7 A B (X p)))) -∗ Q ⟨⟩)
        -∗ wp frame (wpE (defs₀ (F := F)) 𝒱₀ (c : Thread nD τ) none) Set.univ (compP wi wo) Q) := by
  unfold compP
  simp only [Prog.lift, Prog.bind_op, Prog.bind_ret, Prog.pure_eq_ret]
  rw [bigSep_four, bigSep_four, bigSep_four]
  iintro ⟨Ha, Hb, ⟨Hx0, Hx1, Hx2, Hx3⟩, ⟨Hp0, Hp1, Hp2, Hp3⟩⟩ Hk
  iapply (ld_whole c wi zero2) $$ Ha
  iintro Ha
  iapply (ld_whole c wo zero2) $$ Hb
  iintro Hb
  iapply (wp_chunk c 0 ![0, 0] (by decide) (k0_pay7 A B) (X 0)) $$ [Hx0 Hp0]
  · isplitl [Hx0]; · iexact Hx0
    iexact Hp0
  iintro ⟨Hx0, Hp0⟩
  iapply (wp_chunk c 1 ![2048, 0] (by decide) (k0_pay7 A B) (X 1)) $$ [Hx1 Hp1]
  · isplitl [Hx1]; · iexact Hx1
    iexact Hp1
  iintro ⟨Hx1, Hp1⟩
  iapply (wp_chunk c 2 ![4096, 0] (by decide) (k0_pay7 A B) (X 2)) $$ [Hx2 Hp2]
  · isplitl [Hx2]; · iexact Hx2
    iexact Hp2
  iintro ⟨Hx2, Hp2⟩
  iapply (wp_chunk c 3 ![6144, 0] (by decide) (k0_pay7 A B) (X 3)) $$ [Hx3 Hp3]
  · isplitl [Hx3]; · iexact Hx3
    iexact Hp3
  iintro ⟨Hx3, Hp3⟩
  rw [wp_ret]
  imodintro
  iapply Hk
  isplitl [Ha]; · iexact Ha
  isplitl [Hb]; · iexact Hb
  isplitl [Hx0 Hx1 Hx2 Hx3]
  · isplitl [Hx0]; · iexact Hx0
    isplitl [Hx1]; · iexact Hx1
    isplitl [Hx2]; · iexact Hx2
    iexact Hx3
  isplitl [Hp0]; · iexact Hp0
  isplitl [Hp1]; · iexact Hp1
  isplitl [Hp2]; · iexact Hp2
  iexact Hp3

/-- A received slab and a received block, as the loads read them. -/
theorem prSlot_eq (c : Dev nD) (s : Fin 3) (v : Vec F S2048x256 .bf16) :
    (own c (prSlot s) v : sProp 𝕄) = own c (pr.slice (Rect.unit (s := S3x2048x256) ![s.val, 0, 0] S1x2048x256.size (pr_inb s)) (fun _ => rfl)) (upS v) :=
  Rows.owns_squeeze (c : Thread nD τ) _ squeezes_S1x2048x256_S2048x256 fullShare v (upS v) fun x => by unfold upS; rw [Equiv.symm_apply_apply]
theorem zrSlot_eq (c : Dev nD) (s : Fin 3) (v : Vec F S512x256 .bf16) :
    (own c (zrSlot s) v : sProp 𝕄) = own c (zr.slice (Rect.unit (s := S3x512x256) ![s.val, 0, 0] S1x512x256.size (zr_inb s)) (fun _ => rfl)) (upB v) :=
  Rows.owns_squeeze (c : Thread nD τ) _ squeezes_S1x512x256_S512x256 fullShare v (upB v) fun x => by unfold upB; rw [Equiv.symm_apply_apply]

/-- A load of one. -/
theorem ldPr (c : Dev nD) (s : Fin 3) {off : Fin 3 → ℕ} (ho : ![s.val, 0, 0] = off) {h : ∀ a, off a + S1x2048x256.size a ≤ S3x2048x256.size a}
    {hl : pr.view.LoadsAt (Rect.unit (s := S3x2048x256) off S1x2048x256.size h).toLoadRect} {Q : PUnit → sProp 𝕄}
    {k : Vec F S1x2048x256 .bf16 → Prog (TpuEff nD τ sig (Elt F) Λ₀ .tc) PUnit} {v : Vec F S2048x256 .bf16} :
    (own c (prSlot s) v : sProp 𝕄)
      ⊢ iprop((own c (prSlot s) v -∗ wp frame (wpE (defs₀ (F := F)) 𝒱₀ (c : Thread nD τ) none) Set.univ (k (upS v)) Q)
        -∗ wp frame (wpE (defs₀ (F := F)) 𝒱₀ (c : Thread nD τ) none) Set.univ (.op (.load pr (Rect.unit (s := S3x2048x256) off S1x2048x256.size h).toLoadRect hl) k) Q) := by
  subst ho
  rw [prSlot_eq]
  exact ld c (m := pr) (r := Rect.unit (s := S3x2048x256) ![s.val, 0, 0] S1x2048x256.size h) (k := k) _ (hr := fun _ => rfl) rfl
theorem ldZr (c : Dev nD) (s : Fin 3) {off : Fin 3 → ℕ} (ho : ![s.val, 0, 0] = off) {h : ∀ a, off a + S1x512x256.size a ≤ S3x512x256.size a}
    {hl : zr.view.LoadsAt (Rect.unit (s := S3x512x256) off S1x512x256.size h).toLoadRect} {Q : PUnit → sProp 𝕄}
    {k : Vec F S1x512x256 .bf16 → Prog (TpuEff nD τ sig (Elt F) Λ₀ .tc) PUnit} {v : Vec F S512x256 .bf16} :
    (own c (zrSlot s) v : sProp 𝕄)
      ⊢ iprop((own c (zrSlot s) v -∗ wp frame (wpE (defs₀ (F := F)) 𝒱₀ (c : Thread nD τ) none) Set.univ (k (upB v)) Q)
        -∗ wp frame (wpE (defs₀ (F := F)) 𝒱₀ (c : Thread nD τ) none) Set.univ (.op (.load zr (Rect.unit (s := S3x512x256) off S1x512x256.size h).toLoadRect hl) k) Q) := by
  subst ho
  rw [zrSlot_eq]
  exact ld c (m := zr) (r := Rect.unit (s := S3x512x256) ![s.val, 0, 0] S1x512x256.size h) (k := k) _ (hr := fun _ => rfl) rfl

/-- A plane's sum. -/
theorem wp_csum (c : Dev nD) (P : Vec F S2048x256 .bf16) (V : Fin 3 → Vec F S2048x256 .bf16) {Q : PUnit → sProp 𝕄} :
    iprop(own c (psl (pc c)) P ∗ three (fun s => own c (prSlot s) (V s)) ∗ free (F := F) c cs)
      ⊢ iprop(((own c (psl (pc c)) P ∗ three (fun s => own c (prSlot s) (V s)) ∗ own c cs (k0_pay14 (k0_pay12 P (upS (V 0))) (k0_pay13 (upS (V 1))) (upS (V 2)))) -∗ Q ⟨⟩)
        -∗ wp frame (wpE (defs₀ (F := F)) 𝒱₀ (c : Thread nD τ) none) Set.univ (csumP c) Q) := by
  unfold csumP free anyOf three
  simp only [Prog.lift, Prog.bind_op, Prog.bind_ret, Prog.pure_eq_ret]
  iintro ⟨Hp, ⟨H0, H1, H2⟩, ⟨%v, Hc⟩⟩ Hk
  iapply (ldR c (N := 8192) (n := 2048) pb (2048 * (pc c).val) (k0_off6_eq c).symm) $$ Hp
  iintro Hp
  iapply (ldPr c 0 (by decide)) $$ H0
  iintro H0
  iapply (ldPr c 1 (by decide)) $$ H1
  iintro H1
  iapply (ldPr c 2 (by decide)) $$ H2
  iintro H2
  iapply (ld_whole c cs zero2) $$ Hc
  iintro Hc
  iapply (st_whole c cs zero2) $$ Hc
  iintro Hc
  rw [wp_ret]
  imodintro
  iapply Hk
  isplitl [Hp]; · iexact Hp
  isplitl [H0 H1 H2]
  · isplitl [H0]; · iexact H0
    isplitl [H1]; · iexact H1
    iexact H2
  iexact Hc

/-- The mesh's sum of the device's own rows. -/
theorem wp_red (c : Dev nD) (P : Vec F S512x256 .bf16) (V : Fin 3 → Vec F S512x256 .bf16) {Q : PUnit → sProp 𝕄} :
    iprop(own c (cbk (zc c)) P ∗ three (fun s => own c (zrSlot s) (V s)) ∗ free (F := F) c (xrow (bk c)))
      ⊢ iprop(((own c (cbk (zc c)) P ∗ three (fun s => own c (zrSlot s) (V s)) ∗ own c (xrow (bk c)) (k0_pay15 P (upB (V 0)) (upB (V 1)) (upB (V 2)))) -∗ Q ⟨⟩)
        -∗ wp frame (wpE (defs₀ (F := F)) 𝒱₀ (c : Thread nD τ) none) Set.univ (redP c) Q) := by
  unfold redP free anyOf three
  simp only [Prog.lift, Prog.bind_op, Prog.bind_ret, Prog.pure_eq_ret]
  iintro ⟨Hp, ⟨H0, H1, H2⟩, ⟨%v, Hc⟩⟩ Hk
  iapply (ldR c (N := 2048) (n := 512) cs (512 * (zc c).val) (k0_off8_eq c).symm) $$ Hp
  iintro Hp
  iapply (ldZr c 0 (by decide)) $$ H0
  iintro H0
  iapply (ldZr c 1 (by decide)) $$ H1
  iintro H1
  iapply (ldZr c 2 (by decide)) $$ H2
  iintro H2
  iapply (ldR c (N := 8192) (n := 512) xf (512 * (bk c).val) (xown_off c)) $$ Hc
  iintro Hc
  iapply (stR c (N := 8192) (n := 512) xf (512 * (bk c).val) (xown_off c)) $$ Hc
  iintro Hc
  rw [wp_ret]
  imodintro
  iapply Hk
  isplitl [Hp]; · iexact Hp
  isplitl [H0 H1 H2]
  · isplitl [H0]; · iexact H0
    isplitl [H1]; · iexact H1
    iexact H2
  iexact Hc

/-! ## The result -/

/-- The result with its first `n` blocks written. -/
def outSt (c : Dev nD) (V : Dev nD → Vec F S512x256 .bf16) (n : ℕ) : sProp 𝕄 := bigSep Finset.univ fun b : Fin 16 =>
  iprop(own c (xrow (bk b)) (V b) ∗ (if b.val < n then own c (orow b) (k0_pay38 (V b)) else free (F := F) c (orow b)))

/-- The blocks but the one being written are as they were. -/
theorem outSt_at (c : Dev nD) (V : Dev nD → Vec F S512x256 .bf16) (b : Fin 16) (n : ℕ) (hn : n = b.val ∨ n = b.val + 1) :
    outSt c V n = iprop((own c (xrow (bk b)) (V b) ∗ (if b.val < n then own c (orow b) (k0_pay38 (V b)) else free (F := F) c (orow b)))
      ∗ bigSep (Finset.univ.erase b) fun b' : Fin 16 => iprop(own c (xrow (bk b')) (V b') ∗ (if b'.val < b.val then own c (orow b') (k0_pay38 (V b')) else free (F := F) c (orow b')))) := by
  unfold outSt
  rw [bigSep_univ_at _ b]
  congr 1
  refine bigSep_congr fun b' hb' => ?_
  have hne : b'.val ≠ b.val := fun e => (Finset.mem_erase.mp hb').1 (Fin.ext e)
  rw [if_congr (show b'.val < n ↔ b'.val < b.val by omega) rfl rfl]

theorem out_off (b : Fin 16) : ![512 * (bk b).val, 0] = ![2048 * (b.val % 4) + 512 * (b.val / 4), 0] := by
  rw [show 512 * (bk b).val = 2048 * (b.val % 4) + 512 * (b.val / 4) by show 512 * (4 * (b.val % 4) + b.val / 4) = _; omega]

/-- One block written. -/
theorem wp_outP (c : Dev nD) (V : Dev nD → Vec F S512x256 .bf16) (b : Fin 16) {Q : PUnit → sProp 𝕄} :
    iprop(outSt c V b.val) ⊢ iprop((outSt c V (b.val + 1) -∗ Q ⟨⟩) -∗ wp frame (wpE (defs₀ (F := F)) 𝒱₀ (c : Thread nD τ) none) Set.univ (outP b) Q) := by
  rw [outSt_at c V b b.val (.inl rfl), outSt_at c V b (b.val + 1) (.inr rfl), if_neg (Nat.lt_irrefl _), if_pos (Nat.lt_succ_self _)]
  unfold outP free anyOf
  simp only [Prog.lift, Prog.bind_op, Prog.bind_ret, Prog.pure_eq_ret]
  iintro ⟨⟨Hx, ⟨%v, Ho⟩⟩, HR⟩ Hk
  iapply (ldR c (N := 8192) (n := 512) xf (512 * (bk b).val) (out_off b)) $$ Hx
  iintro Hx
  iapply (ldR c (N := 8192) (n := 512) oM (512 * b.val) rfl) $$ Ho
  iintro Ho
  iapply (stR c (N := 8192) (n := 512) oM (512 * b.val) rfl) $$ Ho
  iintro Ho
  rw [wp_ret]
  imodintro
  iapply Hk
  isplitl [Hx Ho]
  · isplitl [Hx]; · iexact Hx
    iexact Ho
  iexact HR

/-- One block, and what follows. -/
theorem wp_outP_bind (c : Dev nD) (V : Dev nD → Vec F S512x256 .bf16) {n : ℕ} (b : Fin 16) (hn : n = b.val) (P : sProp 𝕄) {Q : PUnit → sProp 𝕄} {k : PUnit → Prog (TpuEff nD τ sig (Elt F) Λ₀ .tc) PUnit}
    (h : iprop(outSt c V (b.val + 1) ∗ P) ⊢ wp frame (wpE (defs₀ (F := F)) 𝒱₀ (c : Thread nD τ) none) Set.univ (k ⟨⟩) Q) :
    iprop(outSt c V n ∗ P) ⊢ wp frame (wpE (defs₀ (F := F)) 𝒱₀ (c : Thread nD τ) none) Set.univ (outP b >>= k) Q := by
  subst hn
  rw [wp_bind]
  iintro ⟨H, HP⟩
  iapply (wp_outP c V b) $$ H
  iintro H
  iapply h
  isplitl [H]; · iexact H
  iexact HP

/-- The whole result. -/
theorem wp_outs (c : Dev nD) (V : Dev nD → Vec F S512x256 .bf16) {Q : PUnit → sProp 𝕄} :
    iprop(outSt c V 0) ⊢ iprop((outSt c V 16 -∗ Q ⟨⟩) -∗ wp frame (wpE (defs₀ (F := F)) 𝒱₀ (c : Thread nD τ) none) Set.univ outsP Q) := by
  refine Idealize.SL.BI.BIClass.wand_intro ?_
  unfold outsP
  iterate 15 refine wp_outP_bind c V _ (by rfl) _ ?_
  show iprop(outSt c V (15 : Fin 16).val ∗ (outSt c V ((15 : Fin 16).val + 1) -∗ Q ⟨⟩)) ⊢ _
  iintro ⟨H, HP⟩
  iapply (wp_outP c V 15) $$ H
  iexact HP

end Cert.KernelIdealProof

end
-- ==== Proof.KernelIdealBody.lean ====
module

public import proofs.«01_k».proof.Proof.KernelIdealPhases

/-! # The whole body

A gathering hands every device all rows; a scattering turns all rows into the next layer's own rows. The
body is a barrier, the store of the own rows, a gathering, three times a scattering and a gathering, and the
copy into the result. -/

@[expose] public section

set_option synthInstance.maxSize 4096

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rows (R at2 tall rows third anyOf)

variable {F : FTy → Type} [FloatOps F]

local notation "𝕄" => MT nD τ sig ℕ (Elt F) ℕ UU ℕ

/-! ## Around a circle of four -/

/-- The place at distance `e + 1` around a circle of four. -/
def rot (q : Fin 4) (e : Fin 3) : Fin 4 := ⟨(q.val + e.val + 1) % 4, Nat.mod_lt _ (by decide)⟩

omit [FloatOps F] in
theorem bigSep_rot (q : Fin 4) (f : Fin 4 → sProp 𝕄) : bigSep Finset.univ f = iprop(f q ∗ three fun e => f (rot q e)) := by
  refine (BI.bigSep_univ_eq_bigSepL [q, rot q 0, rot q 1, rot q 2] (by revert q; decide) (by revert q; decide) f).trans ?_
  rfl

omit [FloatOps F] in
theorem three_mono {f g : Fin 3 → sProp 𝕄} (h : ∀ e, f e ⊢ g e) : three f ⊢ three g := by
  rw [← bigSep_three, ← bigSep_three]; exact bigSep_mono fun e _ => h e
omit [FloatOps F] in
theorem three_sep (f g : Fin 3 → sProp 𝕄) : three (fun e => iprop(f e ∗ g e)) = iprop(three f ∗ three g) := by
  rw [← bigSep_three, ← bigSep_three, ← bigSep_three]; exact bigSep_sep' _ f g

theorem bk_dv : ∀ z p : Fin 4, (bk (dv z p)).val = 4 * p.val + z.val := by decide

/-! ## Rows, slabs and blocks -/

section Parts
variable (c : Dev nD)

/-- A slab is the blocks of its column. -/
theorem slab_rows (p : Fin 4) (b : Dev nD → Vec F S512x256 .bf16) :
    (own c (xsl p) (slabOf b p) : sProp 𝕄) = bigSep Finset.univ fun z : Fin 4 => own c (xrow (bk (dv z p))) (b (dv z p)) :=
  Rows.cut_rows (c : Thread nD τ) fullShare (k := 4) (n := 512) (N := 2048) (M := 8192) rfl xf _ (fun z => 512 * (bk (dv z p)).val)
    (fun z => by show 2048 * p.val + 512 * z.val = 512 * (bk (dv z p)).val; rw [bk_dv]; omega) (fun z => Rows.inb (by have := (bk (dv z p)).isLt; omega)) (fun z => b (dv z p))

theorem slab_rows_any (p : Fin 4) : (free (F := F) c (xsl p) : sProp 𝕄) ⊢ bigSep Finset.univ fun z : Fin 4 => free (F := F) c (xrow (bk (dv z p))) :=
  Rows.any_cut_rows (c : Thread nD τ) (k := 4) (n := 512) (N := 2048) (M := 8192) rfl xf _ (fun z => 512 * (bk (dv z p)).val)
    (fun z => by show 2048 * p.val + 512 * z.val = 512 * (bk (dv z p)).val; rw [bk_dv]; omega) (fun z => Rows.inb (by have := (bk (dv z p)).isLt; omega))

/-- The device's own slab is its own rows and its column peers'. -/
theorem own_slab (b : Dev nD → Vec F S512x256 .bf16) :
    (own c (xsl (pc c)) (slabOf b (pc c)) : sProp 𝕄) = iprop(own c (xrow (bk c)) (b c) ∗ three fun e => own c (xrow (bk (peer 0 c e))) (b (peer 0 c e))) := by
  rw [slab_rows, bigSep_rot (zc c), dv_coords]
  rfl
theorem own_slab_any : (free (F := F) c (xsl (pc c)) : sProp 𝕄) ⊢ iprop(free (F := F) c (xrow (bk c)) ∗ three fun e => free (F := F) c (xrow (bk (peer 0 c e)))) := by
  refine (slab_rows_any c (pc c)).trans (Entails.of_eq ?_)
  rw [bigSep_rot (zc c), dv_coords]
  rfl

theorem pc_peer (e : Fin 3) : pc (peer 1 c e) = rot (pc c) e := pc_dv _ _
theorem zc_peer (e : Fin 3) : zc (peer 0 c e) = rot (zc c) e := zc_dv _ _

/-- Own rows lent to three transfers. -/
theorem lend (m : Memref sig .tc .vmem S512x256 .bf16) (X : Vec F S512x256 .bf16) : (own c m X : sProp 𝕄) = three fun e => ownsTc c m (third e) X :=
  (Rows.owns_thirds (c : Thread nD τ) m X).trans (bigSep_three _)
theorem lendS (m : Memref sig .tc .vmem S2048x256 .bf16) (X : Vec F S2048x256 .bf16) : (own c m X : sProp 𝕄) = three fun e => ownsTc c m (third e) X :=
  (Rows.owns_thirds (c : Thread nD τ) m X).trans (bigSep_three _)

/-- The plane's sum is its four blocks. -/
theorem cs_blocks (v : Vec F S2048x256 .bf16) :
    (own c cs v : sProp 𝕄) = iprop(own c (cbk (zc c)) (cpart (zc c) v) ∗ three fun e => own c (cbk (zc (peer 3 c e))) (cpart (zc (peer 3 c e)) v)) := by
  have h : (own c cs v : sProp 𝕄) = bigSep Finset.univ fun z : Fin 4 => own c (cbk z) (cpart z v) :=
    (congrArg (owns (c : Thread nD τ) cs fullShare) (Rows.tall_band (k := 4) (n := 512) (N := 2048) rfl v).symm).trans
      (Rows.cut (c : Thread nD τ) fullShare (k := 4) (n := 512) (N := 2048) rfl cs (fun z => Rows.inb (by omega)) _)
  rw [h, bigSep_rot (zc c)]
  simp only [show ∀ e, zc (peer 3 c e) = rot (zc c) e from zc_peer c]

end Parts

/-! ## Places handed over -/

variable (I : Ins F) (K : Dev nD × CK → ℕ)

/-- Free places and how far their cells are make them places to write. -/
theorem offer (c : Dev nD) (a : Fin 4) (r : ℕ) :
    iprop(three (fun e => free (F := F) c (dstM a c e)) ∗ three (fun e => pos (F := F) c (CK.rcv a e) r))
      ⊢ iprop(three (hole (F := F) a r c) ∗ three (fun e => pos (F := F) c (CK.rcv a e) r)) := by
  rw [← three_sep, ← three_sep]
  refine three_mono fun e => ?_
  unfold pos hole free anyOf
  iintro ⟨⟨%v, H⟩, Hat, #Hr⟩
  isplitl [H]
  · isplitl [H]; · iexists v; iexact H
    iexact Hr
  isplitl [Hat]; · iexact Hat
  iexact Hr

/-- How far all cells' waits have gone. -/
def poss (c : Dev nD) (i r0 r1 r2 r3 : ℕ) : sProp 𝕄 :=
  iprop(three (fun e => pos (F := F) c (CK.snd e) i) ∗ three (fun e => pos (F := F) c (CK.rcv 0 e) r0) ∗ three (fun e => pos (F := F) c (CK.rcv 1 e) r1)
    ∗ three (fun e => pos (F := F) c (CK.rcv 2 e) r2) ∗ three (fun e => pos (F := F) c (CK.rcv 3 e) r3))

/-- The places for contributions and for sums are handed over but after the last layer. -/
def keep (c : Dev nD) (r : ℕ) : sProp 𝕄 :=
  if r < 3 then iprop(emp) else iprop(three (fun s => free (F := F) c (prSlot s)) ∗ three (fun s => free (F := F) c (zrSlot s)))

theorem offer_last (c : Dev nD) (r : ℕ) :
    iprop(three (fun s => free (F := F) c (prSlot s)) ∗ three (fun s => free (F := F) c (zrSlot s)) ∗ three (fun e => pos (F := F) c (CK.rcv 2 e) r) ∗ three (fun e => pos (F := F) c (CK.rcv 3 e) r))
      ⊢ iprop(three (nextHole (F := F) 0 r c) ∗ three (nextHole (F := F) 1 r c) ∗ keep (F := F) c r ∗ three (fun e => pos (F := F) c (CK.rcv 2 e) r) ∗ three (fun e => pos (F := F) c (CK.rcv 3 e) r)) := by
  unfold keep
  by_cases h : r < 3
  · have e0 : nextHole (F := F) 0 r c = hole (F := F) 3 r c := funext fun s => if_pos h
    have e1 : nextHole (F := F) 1 r c = hole (F := F) 2 r c := funext fun s => if_pos h
    rw [e0, e1, if_pos h]
    iintro ⟨HP, HZ, H2, H3⟩
    ihave H := (offer c 2 r) $$ [HP H2]
    · isplitl [HP]; · iexact HP
      iexact H2
    icases H with ⟨HP, H2⟩
    ihave H := (offer c 3 r) $$ [HZ H3]
    · isplitl [HZ]; · iexact HZ
      iexact H3
    icases H with ⟨HZ, H3⟩
    isplitl [HZ]; · iexact HZ
    isplitl [HP]; · iexact HP
    isplitr; · iempintro
    isplitl [H2]; · iexact H2
    iexact H3
  · have e0 : nextHole (F := F) 0 r c = fun _ => iprop(emp) := funext fun s => if_neg h
    have e1 : nextHole (F := F) 1 r c = fun _ => iprop(emp) := funext fun s => if_neg h
    rw [e0, e1, if_neg h]
    iintro ⟨HP, HZ, H2, H3⟩
    isplitr; · isplitr; · iempintro
               isplitr <;> iempintro
    isplitr; · isplitr; · iempintro
               isplitr <;> iempintro
    isplitl [HP HZ]
    · isplitl [HP]; · iexact HP
      iexact HZ
    isplitl [H2]; · iexact H2
    iexact H3

/-! ## The four exchanges -/

section Exchanges
variable (c : Dev nD) (r : ℕ) (n : Fin 3 → Dev nD)

/-- An exchange with its indices and what it sends written as a user of it writes them. -/
theorem wp_exch_as (a : Fin 4) (i i' : ℕ) (hi : 4 * r + a.val = i) (hi' : i + 1 = i') (h0 : i < 14) (src dst wr ws : Fin 3 → Memref sig .tc .vmem (sh a) .bf16)
    (hwsrc : ∀ e, (src e).view.WordExact) (hwdst : ∀ e, (dst e).view.WordExact) (hwwr : ∀ e, (wr e).view.WordExact) (hwws : ∀ e, (ws e).view.WordExact)
    (hn : ∀ e, n e = peer a c e) (hsrc : ∀ e, src e = srcM a c e) (hdst : ∀ e, dst (Fin.rev e) = dstM a (peer a c e) (Fin.rev e))
    (S : Fin 3 → sProp 𝕄) (hS : ∀ e, sndPay I c e a r = S e) (H : Fin 3 → sProp 𝕄) {Q : PUnit → sProp 𝕄} (hH : nextHole (F := F) a r c = H) :
    iprop(records I K ∗ levAts L lv ∗ owing c (Orem c i)
        ∗ three (kit (F := F) c a r) ∗ three (fun e => pos (F := F) c (CK.snd e) i) ∗ three (fun s => pos (F := F) c (CK.rcv a s) r)
        ∗ three S ∗ three (fun e => hole (F := F) a r (peer a c e) (Fin.rev e)) ∗ three H)
      ⊢ iprop(((owing c (Orem c i')
          ∗ three (fun e => pos (F := F) c (CK.snd e) i') ∗ three (fun s => pos (F := F) c (CK.rcv a s) (r + 1))
          ∗ three S ∗ three (fun s => rcvPay I c a s r)) -∗ Q ⟨⟩)
        -∗ wp frame (wpE (defs₀ (F := F)) 𝒱₀ (c : Thread nD τ) none) Set.univ (exch a n src dst wr ws hwsrc hwdst hwwr hwws) Q) := by
  subst hi; subst hi'; subst hH
  obtain rfl : (fun e => sndPay I c e a r) = S := funext hS
  exact wp_exch I K c a r h0 n src dst wr ws hwsrc hwdst hwwr hwws hn hsrc hdst

theorem sndPay_0 (e : Fin 3) : sndPay I c e 0 r = ownsTc c (xrow (bk c)) (third e) (blk I r c) := rfl
theorem sndPay_1 (e : Fin 3) : sndPay I c e 1 r = ownsTc c (xsl (pc c)) (third e) (slab I r (pc c)) := rfl
theorem sndPay_2 (e : Fin 3) : sndPay I c e 2 r = own c (psl (pc (peer 2 c e))) (prod I r c (pc (peer 2 c e))) := rfl
theorem sndPay_3 (e : Fin 3) : sndPay I c e 3 r = own c (cbk (zc (peer 3 c e))) (cpart (zc (peer 3 c e)) (csum I r c)) := rfl

theorem rcvPay_split (a : Fin 4) (V H : Fin 3 → sProp 𝕄) (hV : ∀ s, (ownsTc c (dstM a c s) fullShare (val I a r (peer a c s) c) : sProp 𝕄) = V s) (hH : ∀ s, nextHole (F := F) a r (peer a c s) (Fin.rev s) = H s) :
    three (fun s => rcvPay I c a s r) = iprop(three V ∗ three H) := by
  obtain rfl : (fun s => _) = V := funext hV
  obtain rfl : (fun s => _) = H := funext hH
  exact three_sep _ _

theorem wp_zag {Q : PUnit → sProp 𝕄} (h0 : r < 4) (hn : ∀ e, n e = peer 0 c e) :
    iprop(records I K ∗ levAts L lv ∗ owing c (Orem c (4 * r)) ∗ three (kit (F := F) c 0 r) ∗ three (fun e => pos (F := F) c (CK.snd e) (4 * r)) ∗ three (fun s => pos (F := F) c (CK.rcv 0 s) r)
        ∗ own c (xrow (bk c)) (blk I r c) ∗ three (fun e => hole (F := F) 0 r (peer 0 c e) (Fin.rev e)) ∗ three (nextHole (F := F) 0 r c))
      ⊢ iprop(((owing c (Orem c (4 * r + 1)) ∗ three (fun e => pos (F := F) c (CK.snd e) (4 * r + 1)) ∗ three (fun s => pos (F := F) c (CK.rcv 0 s) (r + 1))
          ∗ own c (xrow (bk c)) (blk I r c) ∗ three (fun s => rcvPay I c 0 s r)) -∗ Q ⟨⟩)
        -∗ wp frame (wpE (defs₀ (F := F)) 𝒱₀ (c : Thread nD τ) none) Set.univ (zagP c n) Q) := by
  rw [lend]
  exact wp_exch_as I K c r n 0 (4 * r) (4 * r + 1) rfl rfl (by omega) _ _ _ _ _ _ _ _ hn (fun e => xblk_eq c) (fun e => by
    show xblk c = xrow (bk (peer 0 (peer 0 c e) (Fin.rev e))); rw [peer_peer]; exact xblk_eq c) _ (sndPay_0 I c r) _ rfl

theorem wp_pag {Q : PUnit → sProp 𝕄} (h0 : r < 4) (hn : ∀ e, n e = peer 1 c e) :
    iprop(records I K ∗ levAts L lv ∗ owing c (Orem c (4 * r + 1)) ∗ three (kit (F := F) c 1 r) ∗ three (fun e => pos (F := F) c (CK.snd e) (4 * r + 1)) ∗ three (fun s => pos (F := F) c (CK.rcv 1 s) r)
        ∗ own c (xsl (pc c)) (slab I r (pc c)) ∗ three (fun e => hole (F := F) 1 r (peer 1 c e) (Fin.rev e)) ∗ three (nextHole (F := F) 1 r c))
      ⊢ iprop(((owing c (Orem c (4 * r + 2)) ∗ three (fun e => pos (F := F) c (CK.snd e) (4 * r + 2)) ∗ three (fun s => pos (F := F) c (CK.rcv 1 s) (r + 1))
          ∗ own c (xsl (pc c)) (slab I r (pc c)) ∗ three (fun s => rcvPay I c 1 s r)) -∗ Q ⟨⟩)
        -∗ wp frame (wpE (defs₀ (F := F)) 𝒱₀ (c : Thread nD τ) none) Set.univ (pagP c n) Q) := by
  rw [lendS]
  exact wp_exch_as I K c r n 1 (4 * r + 1) (4 * r + 2) rfl rfl (by omega) _ _ _ _ _ _ _ _ hn (fun e => xslab_eq c) (fun e => by
    show xslab c = xsl (pc (peer 1 (peer 1 c e) (Fin.rev e))); rw [peer_peer]; exact xslab_eq c) _ (sndPay_1 I c r) _ rfl

theorem wp_prs {Q : PUnit → sProp 𝕄} (h0 : r < 3) (hn : ∀ e, n e = peer 2 c e) :
    iprop(records I K ∗ levAts L lv ∗ owing c (Orem c (4 * r + 2)) ∗ three (kit (F := F) c 2 r) ∗ three (fun e => pos (F := F) c (CK.snd e) (4 * r + 2)) ∗ three (fun s => pos (F := F) c (CK.rcv 2 s) r)
        ∗ three (fun e => own c (psl (pc (peer 2 c e))) (prod I r c (pc (peer 2 c e)))) ∗ three (fun e => hole (F := F) 2 r (peer 2 c e) (Fin.rev e)) ∗ three (hole (F := F) 1 (r + 1) c))
      ⊢ iprop(((owing c (Orem c (4 * r + 3)) ∗ three (fun e => pos (F := F) c (CK.snd e) (4 * r + 3)) ∗ three (fun s => pos (F := F) c (CK.rcv 2 s) (r + 1))
          ∗ three (fun e => own c (psl (pc (peer 2 c e))) (prod I r c (pc (peer 2 c e)))) ∗ three (fun s => rcvPay I c 2 s r)) -∗ Q ⟨⟩)
        -∗ wp frame (wpE (defs₀ (F := F)) 𝒱₀ (c : Thread nD τ) none) Set.univ (prsP c n) Q) :=
  wp_exch_as I K c r n 2 (4 * r + 2) (4 * r + 3) rfl rfl (by omega) _ _ _ _ _ _ _ _ hn (fun e => pslabAt_eq c e) (fun e => rfl) _ (sndPay_2 I c r) _ rfl

theorem wp_zrs {Q : PUnit → sProp 𝕄} (h0 : r < 3) (hn : ∀ e, n e = peer 3 c e) :
    iprop(records I K ∗ levAts L lv ∗ owing c (Orem c (4 * r + 3)) ∗ three (kit (F := F) c 3 r) ∗ three (fun e => pos (F := F) c (CK.snd e) (4 * r + 3)) ∗ three (fun s => pos (F := F) c (CK.rcv 3 s) r)
        ∗ three (fun e => own c (cbk (zc (peer 3 c e))) (cpart (zc (peer 3 c e)) (csum I r c))) ∗ three (fun e => hole (F := F) 3 r (peer 3 c e) (Fin.rev e)) ∗ three (hole (F := F) 0 (r + 1) c))
      ⊢ iprop(((owing c (Orem c (4 * (r + 1))) ∗ three (fun e => pos (F := F) c (CK.snd e) (4 * (r + 1))) ∗ three (fun s => pos (F := F) c (CK.rcv 3 s) (r + 1))
          ∗ three (fun e => own c (cbk (zc (peer 3 c e))) (cpart (zc (peer 3 c e)) (csum I r c))) ∗ three (fun s => rcvPay I c 3 s r)) -∗ Q ⟨⟩)
        -∗ wp frame (wpE (defs₀ (F := F)) 𝒱₀ (c : Thread nD τ) none) Set.univ (zrsP c n) Q) :=
  wp_exch_as I K c r n 3 (4 * r + 3) (4 * (r + 1)) rfl (by omega) (by omega) _ _ _ _ _ _ _ _ hn (fun e => cblkAt_eq c e) (fun e => rfl) _ (sndPay_3 I c r) _ rfl

end Exchanges

/-! ## Gathering -/

/-- Before a gathering: the own rows, and where to write on the peers. -/
def preG (c : Dev nD) (r : ℕ) : sProp 𝕄 :=
  iprop(owing c (Orem c (4 * r)) ∗ poss (F := F) c (4 * r) r r r r ∗ own c (xrow (bk c)) (blk I r c)
    ∗ three (fun e => hole (F := F) 0 r (peer 0 c e) (Fin.rev e)) ∗ three (fun e => hole (F := F) 1 r (peer 1 c e) (Fin.rev e))
    ∗ three (fun s => free (F := F) c (prSlot s)) ∗ three (fun s => free (F := F) c (zrSlot s)))
/-- After it: all rows, and where to write on the peers next. -/
def postG (c : Dev nD) (r : ℕ) : sProp 𝕄 :=
  iprop(owing c (Orem c (4 * r + 2)) ∗ poss (F := F) c (4 * r + 2) (r + 1) (r + 1) r r ∗ (bigSep Finset.univ fun p => own c (xsl p) (slab I r p))
    ∗ three (fun s => nextHole (F := F) 0 r (peer 0 c s) (Fin.rev s)) ∗ three (fun s => nextHole (F := F) 1 r (peer 1 c s) (Fin.rev s)) ∗ keep (F := F) c r)
def kitG (c : Dev nD) (r : ℕ) : sProp 𝕄 := iprop(three (kit (F := F) c 0 r) ∗ three (kit (F := F) c 1 r))
def kitS (c : Dev nD) (r : ℕ) : sProp 𝕄 := iprop(three (kit (F := F) c 2 r) ∗ three (kit (F := F) c 3 r))

theorem wp_gather (c : Dev nD) (r : ℕ) (h0 : r < 4) (n₀ n₁ : Fin 3 → Dev nD) (hn₀ : ∀ e, n₀ e = peer 0 c e) (hn₁ : ∀ e, n₁ e = peer 1 c e) {Q : PUnit → sProp 𝕄} :
    iprop(records I K ∗ levAts L lv ∗ kitG (F := F) c r ∗ preG I c r)
      ⊢ iprop((postG I c r -∗ Q ⟨⟩)
        -∗ wp frame (wpE (defs₀ (F := F)) 𝒱₀ (c : Thread nD τ) none) Set.univ (zagP c n₀ >>= fun _ => pagP c n₁) Q) := by
  unfold kitG preG poss
  rw [wp_bind]
  iintro ⟨#HR, #Hlev, ⟨Hk0, Hk1⟩, HO, ⟨HpS, Hp0, Hp1, Hp2, Hp3⟩, Hx, Hh0, Hh1, HP, HZ⟩ Hk
  ihave H := (offer_last c r) $$ [HP HZ Hp2 Hp3]
  · isplitl [HP]; · iexact HP
    isplitl [HZ]; · iexact HZ
    isplitl [Hp2]; · iexact Hp2
    iexact Hp3
  icases H with ⟨HN0, HN1, HK, Hp2, Hp3⟩
  iapply (wp_zag I K c r n₀ h0 hn₀) $$ [HO Hk0 HpS Hp0 Hx Hh0 HN0]
  · isplitr; · iexact HR
    isplitr; · iexact Hlev
    isplitl [HO]; · iexact HO
    isplitl [Hk0]; · iexact Hk0
    isplitl [HpS]; · iexact HpS
    isplitl [Hp0]; · iexact Hp0
    isplitl [Hx]; · iexact Hx
    isplitl [Hh0]; · iexact Hh0
    iexact HN0
  iintro ⟨HO, HpS, Hp0, Hx, Hv⟩
  ihave Hv := (Entails.of_eq (rcvPay_split I c r 0 (fun s => own c (xrow (bk (peer 0 c s))) (blk I r (peer 0 c s))) (fun s => nextHole (F := F) 0 r (peer 0 c s) (Fin.rev s)) (fun s => rfl) (fun s => rfl))) $$ Hv
  icases Hv with ⟨Hv, HN0⟩
  ihave Hx := (Entails.of_eq (own_slab c (blk I r)).symm) $$ [Hx Hv]
  · isplitl [Hx]; · iexact Hx
    iexact Hv
  iapply (wp_pag I K c r n₁ h0 hn₁) $$ [HO Hk1 HpS Hp1 Hx Hh1 HN1]
  · isplitr; · iexact HR
    isplitr; · iexact Hlev
    isplitl [HO]; · iexact HO
    isplitl [Hk1]; · iexact Hk1
    isplitl [HpS]; · iexact HpS
    isplitl [Hp1]; · iexact Hp1
    isplitl [Hx]; · iexact Hx
    isplitl [Hh1]; · iexact Hh1
    iexact HN1
  iintro ⟨HO, HpS, Hp1, Hx, Hv⟩
  ihave Hv := (Entails.of_eq (rcvPay_split I c r 1 (fun s => own c (xsl (pc (peer 1 c s))) (slab I r (pc (peer 1 c s)))) (fun s => nextHole (F := F) 1 r (peer 1 c s) (Fin.rev s)) (fun s => rfl) (fun s => rfl))) $$ Hv
  icases Hv with ⟨Hv, HN1⟩
  have hsl : (bigSep Finset.univ fun p => own c (xsl p) (slab I r p)) = iprop(own c (xsl (pc c)) (slab I r (pc c)) ∗ three fun s => own c (xsl (pc (peer 1 c s))) (slab I r (pc (peer 1 c s)))) := by
    rw [bigSep_rot (pc c)]; simp only [pc_peer]
  ihave Hx := (Entails.of_eq hsl.symm) $$ [Hx Hv]
  · isplitl [Hx]; · iexact Hx
    iexact Hv
  iapply Hk
  unfold postG poss
  isplitl [HO]; · iexact HO
  isplitl [HpS Hp0 Hp1 Hp2 Hp3]
  · isplitl [HpS]; · iexact HpS
    isplitl [Hp0]; · iexact Hp0
    isplitl [Hp1]; · iexact Hp1
    isplitl [Hp2]; · iexact Hp2
    iexact Hp3
  isplitl [Hx]; · iexact Hx
  isplitl [HN0]; · iexact HN0
  isplitl [HN1]; · iexact HN1
  iexact HK

/-! ## Scattering -/

section Scatter
variable (c : Dev nD) (r : ℕ)

/-- All four slabs: the own one and the plane peers'. -/
theorem slabs_rot (m : Fin 4 → Memref sig .tc .vmem S2048x256 .bf16) (X : Fin 4 → Vec F S2048x256 .bf16) :
    (bigSep Finset.univ fun p => (own c (m p) (X p) : sProp 𝕄)) = iprop(own c (m (pc c)) (X (pc c)) ∗ three fun s => own c (m (pc (peer 1 c s))) (X (pc (peer 1 c s)))) := by
  rw [bigSep_rot (pc c)]; simp only [pc_peer]
theorem slabs_any_rot (m : Fin 4 → Memref sig .tc .vmem S2048x256 .bf16) :
    (bigSep Finset.univ fun p => free (F := F) c (m p)) = iprop(free (F := F) c (m (pc c)) ∗ three fun s => free (F := F) c (m (pc (peer 1 c s)))) := by
  rw [bigSep_rot (pc c)]; simp only [pc_peer]

/-- The plane's sum of four blocks, any of them. -/
theorem cs_join : iprop(free (F := F) c (cbk (zc c)) ∗ three fun e => free (F := F) c (cbk (zc (peer 3 c e)))) ⊢ (free (F := F) c cs : sProp 𝕄) := by
  have h : (bigSep Finset.univ fun z : Fin 4 => free (F := F) c (cbk z)) ⊢ (free (F := F) c cs : sProp 𝕄) :=
    Rows.join_rows_any (c : Thread nD τ) fullShare (k := 4) (n := 512) (N := 2048) rfl cs (fun z => Rows.inb (by omega))
  rw [bigSep_rot (zc c)] at h
  simp only [show ∀ e, rot (zc c) e = zc (peer 3 c e) from fun e => (zc_peer c e).symm] at h
  exact h

/-- A layer's weights. -/
def wts (wi : Memref sig .tc .vmem S256x512 .bf16) (wo : Memref sig .tc .vmem S512x256 .bf16) (q : PosShare TreeShare) : sProp 𝕄 :=
  iprop(ownsTc c wi q (I.wi r c) ∗ ownsTc c wo q (I.wo r c))
/-- The buffers a layer computes into. -/
def room : sProp 𝕄 := iprop((bigSep Finset.univ fun p => free (F := F) c (psl p)) ∗ free (F := F) c cs)

end Scatter

theorem wp_scatter (c : Dev nD) (r : ℕ) (h0 : r < 3) (wi : Memref sig .tc .vmem S256x512 .bf16) (wo : Memref sig .tc .vmem S512x256 .bf16) (q : PosShare TreeShare)
    (n₂ n₃ : Fin 3 → Dev nD) (hn₂ : ∀ e, n₂ e = peer 2 c e) (hn₃ : ∀ e, n₃ e = peer 3 c e) {Q : PUnit → sProp 𝕄} {k : PUnit → Prog (TpuEff nD τ sig (Elt F) Λ₀ .tc) PUnit} :
    iprop(records I K ∗ levAts L lv ∗ kitS (F := F) c r ∗ wts I c r wi wo q ∗ room (F := F) c ∗ postG I c r)
      ⊢ iprop(((wts I c r wi wo q ∗ room (F := F) c ∗ preG I c (r + 1)) -∗ wp frame (wpE (defs₀ (F := F)) 𝒱₀ (c : Thread nD τ) none) Set.univ (k ⟨⟩) Q)
        -∗ wp frame (wpE (defs₀ (F := F)) 𝒱₀ (c : Thread nD τ) none) Set.univ
          (compP wi wo >>= fun _ => prsP c n₂ >>= fun _ => csumP c >>= fun _ => zrsP c n₃ >>= fun _ => redP c >>= k) Q) := by
  have e0 : nextHole (F := F) 0 r = hole (F := F) 3 r := funext fun q => funext fun s => if_pos h0
  have e1 : nextHole (F := F) 1 r = hole (F := F) 2 r := funext fun q => funext fun s => if_pos h0
  have hpr : (bigSep Finset.univ fun p => (own c (psl p) (k0_pay7 (I.wi r c) (I.wo r c) (slab I r p)) : sProp 𝕄)) = bigSep Finset.univ fun p => own c (psl p) (prod I r c p) := rfl
  have hcs : (own c cs (k0_pay14 (k0_pay12 (prod I r c (pc c)) (upS (prod I r (peer 2 c 0) (pc c)))) (k0_pay13 (upS (prod I r (peer 2 c 1) (pc c)))) (upS (prod I r (peer 2 c 2) (pc c)))) : sProp 𝕄)
      = own c cs (csum I r c) := rfl
  have hbl : (own c (xrow (bk c)) (k0_pay15 (cpart (zc c) (csum I r c)) (upB (cpart (zc c) (csum I r (peer 3 c 0)))) (upB (cpart (zc c) (csum I r (peer 3 c 1)))) (upB (cpart (zc c) (csum I r (peer 3 c 2))))) : sProp 𝕄)
      = own c (xrow (bk c)) (blk I (r + 1) c) := rfl
  unfold kitS postG poss keep wts room
  rw [e0, e1, if_pos h0, wp_bind]
  iintro ⟨#HR, #Hlev, ⟨Hk2, Hk3⟩, ⟨HA, HB⟩, ⟨HP, HC⟩, HO, ⟨HpS, Hp0, Hp1, Hp2, Hp3⟩, HX, Hh3, Hh2, -⟩ Hk
  iapply (wp_comp c wi wo q (I.wi r c) (I.wo r c) (slab I r)) $$ [HA HB HX HP]
  · isplitl [HA]; · iexact HA
    isplitl [HB]; · iexact HB
    isplitl [HX]; · iexact HX
    iexact HP
  iintro ⟨HA, HB, HX, HP⟩
  ihave HX := (Entails.of_eq (slabs_rot c xsl (slab I r))) $$ HX
  ihave HP := (Entails.of_eq (hpr.trans (slabs_rot c psl (prod I r c)))) $$ HP
  icases HX with ⟨HX, HXp⟩
  icases HP with ⟨HP, HPp⟩
  ihave HXp := (three_mono (fun e => free_intro c (xsl (pc (peer 1 c e))) (slab I r (pc (peer 1 c e))))) $$ HXp
  ihave H := (offer c 1 (r + 1)) $$ [HXp Hp1]
  · isplitl [HXp]; · iexact HXp
    iexact Hp1
  icases H with ⟨HXp, Hp1⟩
  rw [wp_bind]
  iapply (wp_prs I K c r n₂ h0 hn₂) $$ [HO Hk2 HpS Hp2 HPp Hh2 HXp]
  · isplitr; · iexact HR
    isplitr; · iexact Hlev
    isplitl [HO]; · iexact HO
    isplitl [Hk2]; · iexact Hk2
    isplitl [HpS]; · iexact HpS
    isplitl [Hp2]; · iexact Hp2
    isplitl [HPp]; · iexact HPp
    isplitl [Hh2]; · iexact Hh2
    iexact HXp
  iintro ⟨HO, HpS, Hp2, HPp, Hv⟩
  ihave Hv := (Entails.of_eq (rcvPay_split I c r 2 (fun s => own c (prSlot s) (prod I r (peer 2 c s) (pc c))) (fun s => hole (F := F) 1 (r + 1) (peer 1 c s) (Fin.rev s)) (fun s => rfl) (fun s => rfl))) $$ Hv
  icases Hv with ⟨HV, Hh1⟩
  rw [wp_bind]
  iapply (wp_csum c (prod I r c (pc c)) (fun s => prod I r (peer 2 c s) (pc c))) $$ [HP HV HC]
  · isplitl [HP]; · iexact HP
    isplitl [HV]; · iexact HV
    iexact HC
  iintro ⟨HP, HV, HC⟩
  ihave HC := (Entails.of_eq (hcs.trans (cs_blocks c (csum I r c)))) $$ HC
  icases HC with ⟨HC, HCp⟩
  ihave HX := (free_intro c (xsl (pc c)) (slab I r (pc c))) $$ HX
  ihave HX := (own_slab_any (F := F) c) $$ HX
  icases HX with ⟨HX, HXp⟩
  ihave H := (offer c 0 (r + 1)) $$ [HXp Hp0]
  · isplitl [HXp]; · iexact HXp
    iexact Hp0
  icases H with ⟨HXp, Hp0⟩
  rw [wp_bind]
  iapply (wp_zrs I K c r n₃ h0 hn₃) $$ [HO Hk3 HpS Hp3 HCp Hh3 HXp]
  · isplitr; · iexact HR
    isplitr; · iexact Hlev
    isplitl [HO]; · iexact HO
    isplitl [Hk3]; · iexact Hk3
    isplitl [HpS]; · iexact HpS
    isplitl [Hp3]; · iexact Hp3
    isplitl [HCp]; · iexact HCp
    isplitl [Hh3]; · iexact Hh3
    iexact HXp
  iintro ⟨HO, HpS, Hp3, HCp, Hv⟩
  ihave Hv := (Entails.of_eq (rcvPay_split I c r 3 (fun s => own c (zrSlot s) (cpart (zc c) (csum I r (peer 3 c s)))) (fun s => hole (F := F) 0 (r + 1) (peer 0 c s) (Fin.rev s)) (fun s => rfl) (fun s => rfl))) $$ Hv
  icases Hv with ⟨HZ, Hh0⟩
  rw [wp_bind]
  iapply (wp_red c (cpart (zc c) (csum I r c)) (fun s => cpart (zc c) (csum I r (peer 3 c s)))) $$ [HC HZ HX]
  · isplitl [HC]; · iexact HC
    isplitl [HZ]; · iexact HZ
    iexact HX
  iintro ⟨HC, HZ, HX⟩
  ihave HX := (Entails.of_eq hbl) $$ HX
  ihave HP := (free_intro c (psl (pc c)) (prod I r c (pc c))) $$ HP
  ihave HPp := (three_mono (fun e => free_intro c (psl (pc (peer 2 c e))) (prod I r c (pc (peer 2 c e))))) $$ HPp
  ihave HV := (three_mono (fun s => free_intro c (prSlot s) (prod I r (peer 2 c s) (pc c)))) $$ HV
  ihave HZ := (three_mono (fun s => free_intro c (zrSlot s) (cpart (zc c) (csum I r (peer 3 c s))))) $$ HZ
  ihave HC := (free_intro c (cbk (zc c)) (cpart (zc c) (csum I r c))) $$ HC
  ihave HCp := (three_mono (fun e => free_intro c (cbk (zc (peer 3 c e))) (cpart (zc (peer 3 c e)) (csum I r c)))) $$ HCp
  ihave HC := (cs_join (F := F) c) $$ [HC HCp]
  · isplitl [HC]; · iexact HC
    iexact HCp
  ihave HP := (Entails.of_eq (slabs_any_rot (F := F) c psl).symm) $$ [HP HPp]
  · isplitl [HP]; · iexact HP
    iexact HPp
  iapply Hk
  isplitl [HA HB]
  · isplitl [HA]; · iexact HA
    iexact HB
  isplitl [HP HC]
  · isplitl [HP]; · iexact HP
    iexact HC
  unfold preG poss
  isplitl [HO]; · iexact HO
  isplitl [HpS Hp0 Hp1 Hp2 Hp3]
  · isplitl [HpS]; · iexact HpS
    isplitl [Hp0]; · iexact Hp0
    isplitl [Hp1]; · iexact Hp1
    isplitl [Hp2]; · iexact Hp2
    iexact Hp3
  isplitl [HX]; · iexact HX
  isplitl [Hh0]; · iexact Hh0
  isplitl [Hh1]; · iexact Hh1
  isplitl [HV]; · iexact HV
  iexact HZ

end Cert.KernelIdealProof

end
-- ==== Proof.KernelIdealSteps.lean ====
module

public import proofs.«01_k».proof.Proof.KernelIdealBody

/-! # The barrier, and a device's whole run -/

@[expose] public section

set_option synthInstance.maxSize 4096

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rows (R at2 tall rows third anyOf)

variable {F : FTy → Type} [FloatOps F]

local notation "𝕄" => MT nD τ sig ℕ (Elt F) ℕ UU ℕ

variable (I : Ins F) (K : Dev nD × CK → ℕ)

/-! ## The barrier -/

/-- All barrier cells are open. -/
def bars : sProp 𝕄 := bigSep Finset.univ fun d : Dev nD => (reached ER (cell d CK.bar) 0 : sProp 𝕄)
instance bars_persistent : BI.Persistent (bars (F := F)) := by unfold bars; infer_instance
theorem bar_at (d : Dev nD) : bars (F := F) ⊢ (reached ER (cell d CK.bar) 0 : sProp 𝕄) :=
  bigSep_elim (Φ := fun d : Dev nD => (reached ER (cell d CK.bar) 0 : sProp 𝕄)) (Finset.mem_univ d)

/-- What a device owes one peer at the barrier, -/
def tell (c : Dev nD) (b : Fin 2) (e : Fin 3) : CellTallies nD τ sig ℕ := tallyAt (cell (peer (barKind b) c e) CK.bar) 1 1
/-- and its right to pay it. -/
def tellTok (c : Dev nD) (b : Fin 2) (e : Fin 3) : sProp 𝕄 := dutyTok ER (cell (peer (barKind b) c e) CK.bar) 0 (b, Fin.rev e)

theorem O₀_eq (c : Dev nD) : O₀ c = Orem c 0 + tell c 0 2 + tell c 1 2 + tell c 0 1 + tell c 1 1 + tell c 0 0 + tell c 1 0 := by
  have h : barDue c = (tell c 0 0 + tell c 0 1 + tell c 0 2) + (tell c 1 0 + tell c 1 1 + tell c 1 2) := by
    unfold barDue
    rw [Fintype.sum_prod_type, Fin.sum_univ_two, Fin.sum_univ_three, Fin.sum_univ_three]; rfl
  unfold O₀
  rw [h]
  ac_rfl

/-- One peer told. -/
theorem wp_tell (c : Dev nD) (b : Fin 2) (e : Fin 3) (n : Dev nD) (hn : n = peer (barKind b) c e) (O' O : CellTallies nD τ sig ℕ) (hO : O' = O + tell c b e)
    {Q : PUnit → sProp 𝕄} {k : PUnit → Prog (TpuEff nD τ sig (Elt F) Λ₀ .tc) PUnit} :
    iprop(records I K ∗ bars (F := F) ∗ owing c O' ∗ tellTok (F := F) c b e ∗ hole (F := F) (barKind b) 0 c e)
      ⊢ iprop((owing c O -∗ wp frame (wpE (defs₀ (F := F)) 𝒱₀ (c : Thread nD τ) none) Set.univ (k ⟨⟩) Q)
        -∗ wp frame (wpE (defs₀ (F := F)) 𝒱₀ (c : Thread nD τ) none) Set.univ (semSignalWord n bsem 1#32 >>= k) Q) := by
  subst hn
  unfold owing tellTok
  iintro ⟨#HR, #HB, ⟨%W, HO⟩, Ht, Hh⟩ Hk
  have hrule := Rounds.wp_signal (defs := defs₀ (F := F)) (Γ := .empty) (Q := Q) (k := k) 𝒱₀ ER (Rd I) (c : Thread nD τ) none (dst := (peer (barKind b) c e : Thread nD τ)) (sem := bsem)
    (κ := K (peer (barKind b) c e, CK.bar)) (r := 0) (d := (b, Fin.rev e)) (k' := 1)
    (by rw [show ((peer (barKind b) c e : Thread nD τ), SemLoc.reg bsem) = cell (peer (barKind b) c e) CK.bar from rfl, duties_bar]; exact Finset.mem_univ _)
    (amount_bar I (peer (barKind b) c e) 0 (b, Fin.rev e)) 1 (O₀ := O') O hO (W := W) (Es := Set.univ)
  have hp : (Rd I).payload ((peer (barKind b) c e : Thread nD τ), SemLoc.reg bsem) 0 (b, Fin.rev e) = hole (F := F) (barKind b) 0 c e := by
    rw [show ((peer (barKind b) c e : Thread nD τ), SemLoc.reg bsem) = cell (peer (barKind b) c e) CK.bar from rfl, payload_bar]
    show hole (barKind b) 0 (peer (barKind b) (peer (barKind b) c e) (Fin.rev e)) (Fin.rev (Fin.rev e)) = _
    rw [peer_peer, Fin.rev_rev]
  rw [hp] at hrule
  iapply hrule $$ [HO Ht Hh]
  · isplitr; · iapply (record I K (peer (barKind b) c e) CK.bar); iexact HR
    isplitl [HO]; · iexact HO
    isplitl [Ht]; · iexact Ht
    isplitl [Hh]; · iexact Hh
    iapply (bar_at (F := F) (peer (barKind b) c e)); iexact HB
  iintro HO
  iapply Hk
  iexists W; iexact HO

/-- What the barrier brings: where to write on the peers. -/
theorem bar_pays (c : Dev nD) : bigSep Finset.univ (barPay (F := F) c)
    = iprop(three (fun e => hole (F := F) 0 0 (peer 0 c e) (Fin.rev e)) ∗ three (fun e => hole (F := F) 1 0 (peer 1 c e) (Fin.rev e))) := by
  rw [bigSep_univ_prod, bigSep_univ_two, bigSep_three, bigSep_three]
  rfl

theorem wp_bar (c : Dev nD) (n n' : Fin 3 → Dev nD) (hn : ∀ e, n e = peer 1 c e) (hn' : ∀ e, n' e = peer 0 c e) {Q : PUnit → sProp 𝕄} :
    iprop(records I K ∗ levAts L lv ∗ bars (F := F) ∗ owing c (O₀ c) ∗ three (tellTok (F := F) c 0) ∗ three (tellTok (F := F) c 1)
        ∗ cred (tallyAt (cell c CK.bar) 1 6) ∗ pos (F := F) c CK.bar 0 ∗ three (hole (F := F) 0 0 c) ∗ three (hole (F := F) 1 0 c))
      ⊢ iprop(((owing c (Orem c 0) ∗ pos (F := F) c CK.bar 1 ∗ three (fun e => hole (F := F) 0 0 (peer 0 c e) (Fin.rev e)) ∗ three (fun e => hole (F := F) 1 0 (peer 1 c e) (Fin.rev e))) -∗ Q ⟨⟩)
        -∗ wp frame (wpE (defs₀ (F := F)) 𝒱₀ (c : Thread nD τ) none) Set.univ (barP n n') Q) := by
  unfold barP pos
  rw [O₀_eq]
  iintro ⟨#HR, #Hlev, #HB, HO, ⟨Ht00, Ht01, Ht02⟩, ⟨Ht10, Ht11, Ht12⟩, Hc, ⟨Hat, -⟩, ⟨Hh00, Hh01, Hh02⟩, ⟨Hh10, Hh11, Hh12⟩⟩ Hk
  iapply (wp_tell I K c 1 0 (n 0) (hn 0) _ _ rfl) $$ [HO Ht10 Hh10]
  · isplitr; · iexact HR
    isplitr; · iexact HB
    isplitl [HO]; · iexact HO
    isplitl [Ht10]; · iexact Ht10
    iexact Hh10
  iintro HO
  iapply (wp_tell I K c 0 0 (n' 0) (hn' 0) _ _ rfl) $$ [HO Ht00 Hh00]
  · isplitr; · iexact HR
    isplitr; · iexact HB
    isplitl [HO]; · iexact HO
    isplitl [Ht00]; · iexact Ht00
    iexact Hh00
  iintro HO
  iapply (wp_tell I K c 1 1 (n 1) (hn 1) _ _ rfl) $$ [HO Ht11 Hh11]
  · isplitr; · iexact HR
    isplitr; · iexact HB
    isplitl [HO]; · iexact HO
    isplitl [Ht11]; · iexact Ht11
    iexact Hh11
  iintro HO
  iapply (wp_tell I K c 0 1 (n' 1) (hn' 1) _ _ rfl) $$ [HO Ht01 Hh01]
  · isplitr; · iexact HR
    isplitr; · iexact HB
    isplitl [HO]; · iexact HO
    isplitl [Ht01]; · iexact Ht01
    iexact Hh01
  iintro HO
  iapply (wp_tell I K c 1 2 (n 2) (hn 2) _ _ rfl) $$ [HO Ht12 Hh12]
  · isplitr; · iexact HR
    isplitr; · iexact HB
    isplitl [HO]; · iexact HO
    isplitl [Ht12]; · iexact Ht12
    iexact Hh12
  iintro HO
  iapply (wp_tell I K c 0 2 (n' 2) (hn' 2) _ _ rfl) $$ [HO Ht02 Hh02]
  · isplitr; · iexact HR
    isplitr; · iexact HB
    isplitl [HO]; · iexact HO
    isplitl [Ht02]; · iexact Ht02
    iexact Hh02
  iintro HO
  unfold owing
  icases HO with ⟨%W, HO⟩
  have hrule := fun k => Rounds.wp_wait_rest_token (defs := defs₀ (F := F)) (Γ := .empty) (Q := Q) (k := k) 𝒱₀ ER (Rd I) (c : Thread nD τ) none (sm := .reg bsem) (κ := K (c, CK.bar))
      (wpE_semWait_eq (defs := defs₀ (F := F)) 𝒱₀ (c : Thread nD τ) none Set.univ (sem := bsem) (k := 6)) (Set.mem_univ _) 1 (O := Orem c 0) (W := W) (R := 0) (m := 0) (T := ∅)
      (by rw [Nat.zero_add]; exact (expect_bar I c).symm)
  iapply (hrule (fun _ => pure ⟨⟩)) $$ [Hc HO Hat]
  · isplitr; · iapply (record I K c CK.bar); iexact HR
    isplitl [Hc]; · iexact Hc
    isplitl [HO]; · iexact HO
    isplitr; · iapply (mayWait c (.reg bsem) 1 (by decide) (Orem c 0) (above_Orem c 0)); iexact Hlev
    iexact Hat
  iintro ⟨HO, Hat, #Hre, Hpay⟩
  ihave Hp := (Entails.of_eq ((rest_bar I c).trans (bar_pays c))) $$ Hpay
  rw [Prog.pure_eq_ret, wp_ret]
  imodintro
  iapply Hk
  isplitl [HO]; · iexists _; iexact HO
  isplitl [Hat]
  · isplitl [Hat]; · iexact Hat
    iexact Hre
  iexact Hp

/-! ## Closing the cells -/

theorem close_three (c : Dev nD) (k : Fin 3 → CK) (i : ℕ) (hi : ∀ e r, i ≤ r → dutiesOf (some (k e)) r = ∅) :
    iprop(records I K ∗ three (fun e => pos (F := F) c (k e) i)) ⊢ iprop(|={Set.univ}=> three fun e => semVal (cell c (k e)) 0) := by
  have h := fun e => Rounds.cell_close ER (Rd I) (g := cell c (k e)) (κ := K (c, k e)) (Set.mem_univ _) (fun h => h) (R := i) (fun r hr => (duties_cell I c (k e) r).trans (hi e r hr))
  unfold pos
  iintro ⟨#HR, ⟨H0, -⟩, ⟨H1, -⟩, ⟨H2, -⟩⟩
  imod (h 0) $$ [H0] with H0
  · isplitr; · iapply (record I K c (k 0)); iexact HR
    iexact H0
  imod (h 1) $$ [H1] with H1
  · isplitr; · iapply (record I K c (k 1)); iexact HR
    iexact H1
  imod (h 2) $$ [H2] with H2
  · isplitr; · iapply (record I K c (k 2)); iexact HR
    iexact H2
  imodintro
  isplitl [H0]; · iexact H0
  isplitl [H1]; · iexact H1
  iexact H2

/-- All semaphores at zero. -/
def zeros (c : Dev nD) : sProp 𝕄 :=
  iprop(three (fun e => semVal (cell c (CK.snd e)) 0) ∗ three (fun e => semVal (cell c (CK.rcv 0 e)) 0) ∗ three (fun e => semVal (cell c (CK.rcv 1 e)) 0)
    ∗ three (fun e => semVal (cell c (CK.rcv 2 e)) 0) ∗ three (fun e => semVal (cell c (CK.rcv 3 e)) 0) ∗ semVal (cell c CK.bar) 0)

theorem close_all (c : Dev nD) : iprop(records I K ∗ poss (F := F) c 14 4 4 3 3 ∗ pos (F := F) c CK.bar 1) ⊢ iprop(|={Set.univ}=> zeros (F := F) c) := by
  have hrcv : ∀ (a : Fin 4) (i : ℕ), 14 ≤ 4 * i + a.val → ∀ (e : Fin 3) (r : ℕ), i ≤ r → dutiesOf (some (CK.rcv a e)) r = ∅ := fun a i hi e r hr => if_neg (by omega)
  have hb := Rounds.cell_close ER (Rd I) (g := cell c CK.bar) (κ := K (c, CK.bar)) (Es := Set.univ) (Set.mem_univ _) (fun h => h) (R := 1) (fun r hr => (duties_cell I c CK.bar r).trans (if_neg (by omega)))
  unfold poss
  iintro ⟨#HR, ⟨HS, H0, H1, H2, H3⟩, Hb⟩
  imod (close_three I K c (CK.snd) 14 (fun e r hr => if_neg (by omega))) $$ [HS] with HS
  · isplitr; · iexact HR
    iexact HS
  imod (close_three I K c (CK.rcv 0) 4 (hrcv 0 4 (by decide))) $$ [H0] with H0
  · isplitr; · iexact HR
    iexact H0
  imod (close_three I K c (CK.rcv 1) 4 (hrcv 1 4 (by decide))) $$ [H1] with H1
  · isplitr; · iexact HR
    iexact H1
  imod (close_three I K c (CK.rcv 2) 3 (hrcv 2 3 (by decide))) $$ [H2] with H2
  · isplitr; · iexact HR
    iexact H2
  imod (close_three I K c (CK.rcv 3) 3 (hrcv 3 3 (by decide))) $$ [H3] with H3
  · isplitr; · iexact HR
    iexact H3
  unfold pos
  icases Hb with ⟨Hb, -⟩
  imod hb $$ [Hb] with Hb
  · isplitr; · iapply (record I K c CK.bar); iexact HR
    iexact Hb
  imodintro
  unfold zeros
  isplitl [HS]; · iexact HS
  isplitl [H0]; · iexact H0
  isplitl [H1]; · iexact H1
  isplitl [H2]; · iexact H2
  isplitl [H3]; · iexact H3
  iexact Hb

/-! ## A layer -/

theorem wp_layer (c : Dev nD) (r : ℕ) (h0 : r < 3) (wi : Memref sig .tc .vmem S256x512 .bf16) (wo : Memref sig .tc .vmem S512x256 .bf16) (q : PosShare TreeShare) (n₂ n₃ n₀ n₁ : Fin 3 → Dev nD)
    (hn₂ : ∀ e, n₂ e = peer 1 c e) (hn₃ : ∀ e, n₃ e = peer 0 c e) (hn₀ : ∀ e, n₀ e = peer 0 c e) (hn₁ : ∀ e, n₁ e = peer 1 c e) {Q : PUnit → sProp 𝕄} :
    iprop(records I K ∗ levAts L lv ∗ (kitS (F := F) c r ∗ kitG (F := F) c (r + 1)) ∗ wts I c r wi wo q ∗ room (F := F) c ∗ postG I c r)
      ⊢ iprop(((wts I c r wi wo q ∗ room (F := F) c ∗ postG I c (r + 1)) -∗ Q ⟨⟩)
        -∗ wp frame (wpE (defs₀ (F := F)) 𝒱₀ (c : Thread nD τ) none) Set.univ (layerP c wi wo n₂ n₃ n₀ n₁) Q) := by
  unfold layerP
  iintro ⟨#HR, #Hlev, ⟨Hks, Hkg⟩, HW, Hr, HG⟩ Hk
  iapply (wp_scatter I K c r h0 wi wo q n₂ n₃ hn₂ hn₃) $$ [Hks HW Hr HG]
  · isplitr; · iexact HR
    isplitr; · iexact Hlev
    isplitl [Hks]; · iexact Hks
    isplitl [HW]; · iexact HW
    isplitl [Hr]; · iexact Hr
    iexact HG
  iintro ⟨HW, Hr, HG⟩
  iapply (wp_gather I K c (r + 1) (by omega) n₀ n₁ hn₀ hn₁) $$ [Hkg HG]
  · isplitr; · iexact HR
    isplitr; · iexact Hlev
    isplitl [Hkg]; · iexact Hkg
    iexact HG
  iintro HG
  iapply Hk
  isplitl [HW]; · iexact HW
  isplitl [Hr]; · iexact Hr
  iexact HG

end Cert.KernelIdealProof

end
-- ==== Proof.KernelIdealMain.lean ====
module

public import proofs.«01_k».proof.Proof.KernelIdealSteps

/-! # A device's whole run -/

@[expose] public section

set_option synthInstance.maxSize 4096

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rows (R at2 tall rows third anyOf)

variable {F : FTy → Type} [FloatOps F]

local notation "𝕄" => MT nD τ sig ℕ (Elt F) ℕ UU ℕ

variable (I : Ins F) (K : Dev nD × CK → ℕ)

/-! ## The devices named -/

/-- Three devices around the plane are the plane's peers, -/
theorem plane_peers (c : Dev nD) (x y z : Dev nD) (hx : x.val = 4 * (c.val / 4) + (((c.val % 4) + 1) % 4)) (hy : y.val = 4 * (c.val / 4) + (((c.val % 4) + 2) % 4))
    (hz : z.val = 4 * (c.val / 4) + (((c.val % 4) + 3) % 4)) : ∀ e, (![x, y, z] : Fin 3 → Dev nD) e = peer 1 c e := fun e => by
  match e with
  | 0 => exact Fin.ext hx
  | 1 => exact Fin.ext hy
  | 2 => exact Fin.ext hz
/-- and three down the column the column's. -/
theorem column_peers (c : Dev nD) (x y z : Dev nD) (hx : x.val = 4 * (((c.val / 4) + 1) % 4) + (c.val % 4)) (hy : y.val = 4 * (((c.val / 4) + 2) % 4) + (c.val % 4))
    (hz : z.val = 4 * (((c.val / 4) + 3) % 4) + (c.val % 4)) : ∀ e, (![x, y, z] : Fin 3 → Dev nD) e = peer 0 c e := fun e => by
  match e with
  | 0 => exact Fin.ext hx
  | 1 => exact Fin.ext hy
  | 2 => exact Fin.ext hz

/-! ## Buffers taken apart and put together -/

/-- A device's coordinates. -/
def coords : Fin 4 × Fin 4 ≃ Dev nD where
  toFun q := dv q.2 q.1
  invFun c := (pc c, zc c)
  left_inv q := Prod.ext (pc_dv q.2 q.1) (zc_dv q.2 q.1)
  right_inv c := dv_coords c

theorem xf_slabs_any (c : Dev nD) : (free (F := F) c xf : sProp 𝕄) ⊢ bigSep Finset.univ fun p => free (F := F) c (xsl p) :=
  Rows.any_cut (c : Thread nD τ) (k := 4) (n := 2048) (N := 8192) rfl xf _
theorem pb_slabs_any (c : Dev nD) : (free (F := F) c pb : sProp 𝕄) ⊢ bigSep Finset.univ fun p => free (F := F) c (psl p) :=
  Rows.any_cut (c : Thread nD τ) (k := 4) (n := 2048) (N := 8192) rfl pb _
theorem pb_join (c : Dev nD) : (bigSep Finset.univ fun p => free (F := F) c (psl p)) ⊢ (free (F := F) c pb : sProp 𝕄) :=
  Rows.join_rows_any (c : Thread nD τ) fullShare (k := 4) (n := 2048) (N := 8192) rfl pb _
theorem om_rows_any (c : Dev nD) : (free (F := F) c oM : sProp 𝕄) ⊢ bigSep Finset.univ fun b : Fin 16 => free (F := F) c (orow b) :=
  Rows.any_cut (c : Thread nD τ) (k := 16) (n := 512) (N := 8192) rfl oM _
theorem om_join (c : Dev nD) (v : Fin 16 → Vec F S512x256 .f32) : (bigSep Finset.univ fun b : Fin 16 => (own c (orow b) (v b) : sProp 𝕄)) ⊢ own c oM (tall (k := 16) (n := 512) (N := 8192) rfl v) :=
  Entails.of_eq (Rows.cut (c : Thread nD τ) fullShare (k := 16) (n := 512) (N := 8192) rfl oM _ v).symm
theorem pr_slots (c : Dev nD) : (free (F := F) c pr : sProp 𝕄) = three fun s => free (F := F) c (prSlot s) := by
  rw [← bigSep_three]
  refine (Rows.any_slots (c : Thread nD τ) (n := 2048) pr pr_inb).trans (bigSep_congr fun s _ => ?_)
  exact (Rows.any_squeeze (c : Thread nD τ) _ squeezes_S1x2048x256_S2048x256).symm
theorem zr_slots (c : Dev nD) : (free (F := F) c zr : sProp 𝕄) = three fun s => free (F := F) c (zrSlot s) := by
  rw [← bigSep_three]
  refine (Rows.any_slots (c : Thread nD τ) (n := 512) zr zr_inb).trans (bigSep_congr fun s _ => ?_)
  exact (Rows.any_squeeze (c : Thread nD τ) _ squeezes_S1x512x256_S512x256).symm

/-- All slabs are all blocks. -/
theorem all_rows (c : Dev nD) (b : Dev nD → Vec F S512x256 .bf16) :
    (bigSep Finset.univ fun p => (own c (xsl p) (slabOf b p) : sProp 𝕄)) = bigSep Finset.univ fun d : Dev nD => own c (xrow (bk d)) (b d) := by
  rw [bigSep_univ_equiv coords, bigSep_univ_prod]
  exact bigSep_congr fun p _ => slab_rows c p b
theorem xf_join (c : Dev nD) (b : Dev nD → Vec F S512x256 .bf16) :
    (bigSep Finset.univ fun d : Dev nD => (own c (xrow (bk d)) (b d) : sProp 𝕄)) ⊢ free (F := F) c xf := by
  rw [← all_rows]
  refine (Entails.of_eq (Rows.cut (c : Thread nD τ) fullShare (k := 4) (n := 2048) (N := 8192) rfl xf _ (slabOf b)).symm).trans ?_
  exact free_intro c xf _

/-- What the copy leaves. -/
def result : Vec F S8192x256 .f32 := tall (k := 16) (n := 512) (N := 8192) rfl fun b => k0_pay38 (blk I 3 b)

theorem outs_start (c : Dev nD) : iprop((bigSep Finset.univ fun p => own c (xsl p) (slab I 3 p)) ∗ free (F := F) c oM) ⊢ outSt c (blk I 3) 0 := by
  rw [all_rows]
  unfold outSt
  rw [show (fun b : Fin 16 => (iprop(own c (xrow (bk b)) (blk I 3 b) ∗ (if b.val < 0 then own c (orow b) (k0_pay38 (blk I 3 b)) else free (F := F) c (orow b))) : sProp 𝕄))
    = fun b : Fin 16 => iprop(own c (xrow (bk b)) (blk I 3 b) ∗ free (F := F) c (orow b)) from funext fun b => by rw [if_neg (Nat.not_lt_zero _)], bigSep_sep']
  exact sep_mono_right (om_rows_any c)
theorem outs_end (c : Dev nD) : outSt c (blk I 3) 16 ⊢ iprop(free (F := F) c xf ∗ own c oM (result I)) := by
  unfold outSt
  rw [show (fun b : Fin 16 => (iprop(own c (xrow (bk b)) (blk I 3 b) ∗ (if b.val < 16 then own c (orow b) (k0_pay38 (blk I 3 b)) else free (F := F) c (orow b))) : sProp 𝕄))
    = fun b : Fin 16 => iprop(own c (xrow (bk b)) (blk I 3 b) ∗ own c (orow b) (k0_pay38 (blk I 3 b))) from funext fun b => by rw [if_pos b.isLt], bigSep_sep']
  exact Idealize.SL.BI.BIClass.sep_mono (xf_join c (blk I 3)) (om_join c _)

theorem gather_bind (c : Dev nD) (n₀ n₁ : Fin 3 → Dev nD) (k : PUnit → Prog (TpuEff nD τ sig (Elt F) Λ₀ .tc) PUnit) (Q : PUnit → sProp 𝕄) :
    wp frame (wpE (defs₀ (F := F)) 𝒱₀ (c : Thread nD τ) none) Set.univ (zagP c n₀ >>= fun _ => pagP c n₁ >>= k) Q
      = wp frame (wpE (defs₀ (F := F)) 𝒱₀ (c : Thread nD τ) none) Set.univ (zagP c n₀ >>= fun _ => pagP c n₁)
          fun _ => wp frame (wpE (defs₀ (F := F)) 𝒱₀ (c : Thread nD τ) none) Set.univ (k ⟨⟩) Q := by
  simp only [wp_bind]

/-! ## The whole run -/

/-- The five working buffers. -/
def bufs (c : Dev nD) : sProp 𝕄 := iprop(free (F := F) c xf ∗ free (F := F) c pb ∗ free (F := F) c cs ∗ free (F := F) c pr ∗ free (F := F) c zr)
/-- The tokens and credits of all exchanges. -/
def kits (c : Dev nD) : sProp 𝕄 :=
  iprop(kitG (F := F) c 0 ∗ (kitS (F := F) c 0 ∗ kitG (F := F) c 1) ∗ (kitS (F := F) c 1 ∗ kitG (F := F) c 2) ∗ (kitS (F := F) c 2 ∗ kitG (F := F) c 3))
/-- Those of the barrier. -/
def barKit (c : Dev nD) : sProp 𝕄 := iprop(three (tellTok (F := F) c 0) ∗ three (tellTok (F := F) c 1) ∗ cred (tallyAt (cell c CK.bar) 1 6))
/-- The arguments a device reads. -/
def args (c : Dev nD) (q : PosShare TreeShare) : sProp 𝕄 :=
  iprop(ownsTc c xM q (I.x c) ∗ wts I c 0 w1M w2M q ∗ wts I c 1 w3M w4M q ∗ wts I c 2 w5M w6M q)

theorem wp_main (d : Dev nD) (q : PosShare TreeShare) {Q : PUnit → sProp 𝕄} :
    iprop(records I K ∗ levAts L lv ∗ bars (F := F) ∗ owing d (O₀ d) ∗ barKit (F := F) d ∗ kits (F := F) d ∗ pos (F := F) d CK.bar 0 ∗ poss (F := F) d 0 0 0 0 0
        ∗ args I d q ∗ free (F := F) d oM ∗ bufs (F := F) d)
      ⊢ iprop(((owing d 0 ∗ args I d q ∗ own d oM (result I) ∗ bufs (F := F) d ∗ zeros (F := F) d) -∗ Q ⟨⟩)
        -∗ wp frame (wpE (defs₀ (F := F)) 𝒱₀ (d : Thread nD τ) none) Set.univ (mainP d) Q) := by
  have hbl : (own d (xrow (bk d)) (k0_pay4 (I.x d)) : sProp 𝕄) = own d (xrow (bk d)) (blk I 0 d) := rfl
  unfold mainP barKit kits args bufs poss
  iintro ⟨#HR, #Hlev, #HB, HO, ⟨Ht0, Ht1, Hcb⟩, ⟨Hk0, Hk1, Hk2, Hk3⟩, Hbar, ⟨HpS, Hp0, Hp1, Hp2, Hp3⟩, ⟨Hx, HW0, HW1, HW2⟩, Ho, ⟨HX, HP, HC, HPR, HZR⟩⟩ Hk
  ihave HX := (xf_slabs_any (F := F) d) $$ HX
  ihave HX := (Entails.of_eq (slabs_any_rot (F := F) d xsl)) $$ HX
  icases HX with ⟨HX, HXp⟩
  ihave HX := (own_slab_any (F := F) d) $$ HX
  icases HX with ⟨HX, HXc⟩
  ihave H := (offer d 0 0) $$ [HXc Hp0]
  · isplitl [HXc]; · iexact HXc
    iexact Hp0
  icases H with ⟨HXc, Hp0⟩
  ihave H := (offer d 1 0) $$ [HXp Hp1]
  · isplitl [HXp]; · iexact HXp
    iexact Hp1
  icases H with ⟨HXp, Hp1⟩
  ihave HP := (pb_slabs_any (F := F) d) $$ HP
  ihave HPR := (Entails.of_eq (pr_slots (F := F) d)) $$ HPR
  ihave HZR := (Entails.of_eq (zr_slots (F := F) d)) $$ HZR
  rw [wp_bind]
  iapply (wp_bar I K d _ _ (plane_peers d ⟨k0_dev1 d, k0_dev1_lt d⟩ ⟨k0_dev3 d, k0_dev3_lt d⟩ ⟨k0_dev5 d, k0_dev5_lt d⟩ (k0_dev1_eq d) (k0_dev3_eq d) (k0_dev5_eq d)) (column_peers d ⟨k0_dev2 d, k0_dev2_lt d⟩ ⟨k0_dev4 d, k0_dev4_lt d⟩ ⟨k0_dev6 d, k0_dev6_lt d⟩ (k0_dev2_eq d) (k0_dev4_eq d) (k0_dev6_eq d))) $$ [HO Ht0 Ht1 Hcb Hbar HXc HXp]
  · isplitr; · iexact HR
    isplitr; · iexact Hlev
    isplitr; · iexact HB
    isplitl [HO]; · iexact HO
    isplitl [Ht0]; · iexact Ht0
    isplitl [Ht1]; · iexact Ht1
    isplitl [Hcb]; · iexact Hcb
    isplitl [Hbar]; · iexact Hbar
    isplitl [HXc]; · iexact HXc
    iexact HXp
  iintro ⟨HO, Hbar, Hh0, Hh1⟩
  rw [wp_bind]
  iapply (wp_init d q (I.x d)) $$ [Hx HX]
  · isplitl [Hx]; · iexact Hx
    iexact HX
  iintro ⟨Hx, HX⟩
  ihave HX := (Entails.of_eq hbl) $$ HX
  rw [gather_bind]
  iapply (wp_gather I K d 0 (by decide) _ _ (column_peers d ⟨k0_dev7 d, k0_dev7_lt d⟩ ⟨k0_dev8 d, k0_dev8_lt d⟩ ⟨k0_dev9 d, k0_dev9_lt d⟩ (k0_dev7_eq d) (k0_dev8_eq d) (k0_dev9_eq d)) (plane_peers d ⟨k0_dev10 d, k0_dev10_lt d⟩ ⟨k0_dev11 d, k0_dev11_lt d⟩ ⟨k0_dev12 d, k0_dev12_lt d⟩ (k0_dev10_eq d) (k0_dev11_eq d) (k0_dev12_eq d))) $$ [HO Hk0 HpS Hp0 Hp1 Hp2 Hp3 HX Hh0 Hh1 HPR HZR]
  · isplitr; · iexact HR
    isplitr; · iexact Hlev
    isplitl [Hk0]; · iexact Hk0
    unfold preG poss
    isplitl [HO]; · iexact HO
    isplitl [HpS Hp0 Hp1 Hp2 Hp3]
    · isplitl [HpS]; · iexact HpS
      isplitl [Hp0]; · iexact Hp0
      isplitl [Hp1]; · iexact Hp1
      isplitl [Hp2]; · iexact Hp2
      iexact Hp3
    isplitl [HX]; · iexact HX
    isplitl [Hh0]; · iexact Hh0
    isplitl [Hh1]; · iexact Hh1
    isplitl [HPR]; · iexact HPR
    iexact HZR
  iintro HG
  ihave Hr := (show iprop((bigSep Finset.univ fun p => free (F := F) d (psl p)) ∗ free (F := F) d cs) ⊢ room (F := F) d from BI.Entails.refl _) $$ [HP HC]
  · isplitl [HP]; · iexact HP
    iexact HC
  rw [wp_bind]
  iapply (wp_layer I K d 0 (by decide) w1M w2M q _ _ _ _ (plane_peers d ⟨k0_dev13 d, k0_dev13_lt d⟩ ⟨k0_dev14 d, k0_dev14_lt d⟩ ⟨k0_dev15 d, k0_dev15_lt d⟩ (k0_dev13_eq d) (k0_dev14_eq d) (k0_dev15_eq d)) (column_peers d ⟨k0_dev16 d, k0_dev16_lt d⟩ ⟨k0_dev17 d, k0_dev17_lt d⟩ ⟨k0_dev18 d, k0_dev18_lt d⟩ (k0_dev16_eq d) (k0_dev17_eq d) (k0_dev18_eq d))
    (column_peers d ⟨k0_dev19 d, k0_dev19_lt d⟩ ⟨k0_dev20 d, k0_dev20_lt d⟩ ⟨k0_dev21 d, k0_dev21_lt d⟩ (k0_dev19_eq d) (k0_dev20_eq d) (k0_dev21_eq d)) (plane_peers d ⟨k0_dev22 d, k0_dev22_lt d⟩ ⟨k0_dev23 d, k0_dev23_lt d⟩ ⟨k0_dev24 d, k0_dev24_lt d⟩ (k0_dev22_eq d) (k0_dev23_eq d) (k0_dev24_eq d))) $$ [Hk1 HW0 Hr HG]
  · isplitr; · iexact HR
    isplitr; · iexact Hlev
    isplitl [Hk1]; · iexact Hk1
    isplitl [HW0]; · iexact HW0
    isplitl [Hr]; · iexact Hr
    iexact HG
  iintro ⟨HW0, Hr, HG⟩
  rw [wp_bind]
  iapply (wp_layer I K d 1 (by decide) w3M w4M q _ _ _ _ (plane_peers d ⟨k0_dev25 d, k0_dev25_lt d⟩ ⟨k0_dev26 d, k0_dev26_lt d⟩ ⟨k0_dev27 d, k0_dev27_lt d⟩ (k0_dev25_eq d) (k0_dev26_eq d) (k0_dev27_eq d)) (column_peers d ⟨k0_dev28 d, k0_dev28_lt d⟩ ⟨k0_dev29 d, k0_dev29_lt d⟩ ⟨k0_dev30 d, k0_dev30_lt d⟩ (k0_dev28_eq d) (k0_dev29_eq d) (k0_dev30_eq d))
    (column_peers d ⟨k0_dev31 d, k0_dev31_lt d⟩ ⟨k0_dev32 d, k0_dev32_lt d⟩ ⟨k0_dev33 d, k0_dev33_lt d⟩ (k0_dev31_eq d) (k0_dev32_eq d) (k0_dev33_eq d)) (plane_peers d ⟨k0_dev34 d, k0_dev34_lt d⟩ ⟨k0_dev35 d, k0_dev35_lt d⟩ ⟨k0_dev36 d, k0_dev36_lt d⟩ (k0_dev34_eq d) (k0_dev35_eq d) (k0_dev36_eq d))) $$ [Hk2 HW1 Hr HG]
  · isplitr; · iexact HR
    isplitr; · iexact Hlev
    isplitl [Hk2]; · iexact Hk2
    isplitl [HW1]; · iexact HW1
    isplitl [Hr]; · iexact Hr
    iexact HG
  iintro ⟨HW1, Hr, HG⟩
  rw [wp_bind]
  iapply (wp_layer I K d 2 (by decide) w5M w6M q _ _ _ _ (plane_peers d ⟨k0_dev37 d, k0_dev37_lt d⟩ ⟨k0_dev38 d, k0_dev38_lt d⟩ ⟨k0_dev39 d, k0_dev39_lt d⟩ (k0_dev37_eq d) (k0_dev38_eq d) (k0_dev39_eq d)) (column_peers d ⟨k0_dev40 d, k0_dev40_lt d⟩ ⟨k0_dev41 d, k0_dev41_lt d⟩ ⟨k0_dev42 d, k0_dev42_lt d⟩ (k0_dev40_eq d) (k0_dev41_eq d) (k0_dev42_eq d))
    (column_peers d ⟨k0_dev43 d, k0_dev43_lt d⟩ ⟨k0_dev44 d, k0_dev44_lt d⟩ ⟨k0_dev45 d, k0_dev45_lt d⟩ (k0_dev43_eq d) (k0_dev44_eq d) (k0_dev45_eq d)) (plane_peers d ⟨k0_dev46 d, k0_dev46_lt d⟩ ⟨k0_dev47 d, k0_dev47_lt d⟩ ⟨k0_dev48 d, k0_dev48_lt d⟩ (k0_dev46_eq d) (k0_dev47_eq d) (k0_dev48_eq d))) $$ [Hk3 HW2 Hr HG]
  · isplitr; · iexact HR
    isplitr; · iexact Hlev
    isplitl [Hk3]; · iexact Hk3
    isplitl [HW2]; · iexact HW2
    isplitl [Hr]; · iexact Hr
    iexact HG
  iintro ⟨HW2, Hr, HG⟩
  unfold postG keep room
  rw [if_neg (by decide)]
  icases HG with ⟨HO, Hp, HX, -, -, ⟨HPR, HZR⟩⟩
  icases Hr with ⟨HP, HC⟩
  imod (close_all I K d) $$ [Hp Hbar] with Hz
  · isplitr; · iexact HR
    isplitl [Hp]; · iexact Hp
    iexact Hbar
  ihave H := (outs_start I d) $$ [HX Ho]
  · isplitl [HX]; · iexact HX
    iexact Ho
  iapply (wp_outs d (blk I 3)) $$ H
  iintro H
  ihave H := (outs_end I d) $$ H
  icases H with ⟨HX, Ho⟩
  ihave HPR := (Entails.of_eq (pr_slots (F := F) d).symm) $$ HPR
  ihave HZR := (Entails.of_eq (zr_slots (F := F) d).symm) $$ HZR
  ihave HP := (pb_join (F := F) d) $$ HP
  rw [show 4 * 3 + 2 = 14 from rfl, Orem_end]
  iapply Hk
  isplitl [HO]; · iexact HO
  isplitl [Hx HW0 HW1 HW2]
  · isplitl [Hx]; · iexact Hx
    isplitl [HW0]; · iexact HW0
    isplitl [HW1]; · iexact HW1
    iexact HW2
  isplitl [Ho]; · iexact Ho
  isplitr [Hz]
  · isplitl [HX]; · iexact HX
    isplitl [HP]; · iexact HP
    isplitl [HC]; · iexact HC
    isplitl [HPR]; · iexact HPR
    iexact HZR
  iexact Hz

end Cert.KernelIdealProof

end
-- ==== Proof.KernelIdealProgEq.lean ====
module

public import proofs.«01_k».proof.Proof.KernelIdealProg

/-! # The printed body is the sequence of phases -/

@[expose] public section

set_option synthInstance.maxSize 4096
set_option maxRecDepth 20000

noncomputable section

namespace Cert.KernelIdealProof

open Idealize.ShloMosaic Idealize.SL.Sem Cert.KernelIdeal Cert.KernelIdeal.Gen

variable {F : FTy → Type} [FloatOps F]

set_option maxHeartbeats 4000000 in
/-- The body reads the device's number and then runs the phases. -/
theorem body_eq (t : Fin cfg0.N) : bodyAt0 (F := F) t = Prog.op .deviceId (fun d => mainP d) := by
  rfl

end Cert.KernelIdealProof

end
-- ==== Proof.KernelIdealDats.lean ====
module

public import proofs.«01_k».proof.Proof.KernelIdealMain
public import proofs.«01_k».proof.Proof.KernelIdealProgEq
public import proofs.«01_k».proof.Proof.Gen.KernelIdeal.Launch
public import proofs.«01_k».proof.Proof.Gen.KernelIdeal.Points

/-! # The call's staged buffers around a device's run -/

@[expose] public section

set_option synthInstance.maxSize 4096

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rows (R at2 tall rows third anyOf)

variable {F : FTy → Type} [FloatOps F]

local notation "𝕄" => MT nD τ sig ℕ (Elt F) ℕ UU ℕ

variable (m : (ℓ : Loc nD τ sig) → Buf (Elt F) ℓ) (ρ : Dev nD → PrngReg)

/-- The launch's state. -/
def s₀ : MemSt nD τ sig (Elt F) := ⟨m, fun _ => 0, ρ⟩

/-- What the devices find staged. -/
def ins : Ins F where
  x c := (win0_0.blk (0 : Fin 1)).view.read (Elt F) ((s₀ m ρ).mem ((c : Thread nD τ).loc main_arg0))
  wi r c := match r with
    | 0 => (win0_1.blk (0 : Fin 1)).view.read (Elt F) ((s₀ m ρ).mem ((c : Thread nD τ).loc main_arg1))
    | 1 => (win0_3.blk (0 : Fin 1)).view.read (Elt F) ((s₀ m ρ).mem ((c : Thread nD τ).loc main_arg2))
    | _ => (win0_5.blk (0 : Fin 1)).view.read (Elt F) ((s₀ m ρ).mem ((c : Thread nD τ).loc main_arg3))
  wo r c := match r with
    | 0 => (win0_2.blk (0 : Fin 1)).view.read (Elt F) ((s₀ m ρ).mem ((c : Thread nD τ).loc main_arg4))
    | 1 => (win0_4.blk (0 : Fin 1)).view.read (Elt F) ((s₀ m ρ).mem ((c : Thread nD τ).loc main_arg5))
    | _ => (win0_6.blk (0 : Fin 1)).view.read (Elt F) ((s₀ m ρ).mem ((c : Thread nD τ).loc main_arg6))

/-- What a device starts its run with, beside its buffers. -/
def start (c : Dev nD) : sProp 𝕄 :=
  iprop((∃ K, records (ins m ρ) K) ∗ levAts L lv ∗ bars (F := F) ∗ barKit (F := F) c ∗ kits (F := F) c ∗ pos (F := F) c CK.bar 0 ∗ poss (F := F) c 0 0 0 0 0)
def Φ₀ (c : Dev nD) : sProp 𝕄 := iprop(start m ρ c ∗ bufs (F := F) c)
/-- What it ends with. -/
def Φ₁ (c : Dev nD) : sProp 𝕄 := iprop(bufs (F := F) c ∗ zeros (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (ins m ρ).x c
    | ⟨1, _⟩ => (ins m ρ).wi 0 c
    | ⟨2, _⟩ => (ins m ρ).wo 0 c
    | ⟨3, _⟩ => (ins m ρ).wi 1 c
    | ⟨4, _⟩ => (ins m ρ).wo 1 c
    | ⟨5, _⟩ => (ins m ρ).wi 2 c
    | ⟨6, _⟩ => (ins m ρ).wo 2 c
    | ⟨7, _⟩ => result (ins m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The staged buffers found and left. -/
def pre (c : Dev nD) : sProp 𝕄 :=
  iprop(Φ₀ m ρ c ∗ (dats m ρ 0 c).owesAt 0 t0_0.castSucc
    ∗ (∃ d, ownsTc c xM fullShare ((dats m ρ 0 c).before (0 : Fin 8) t0_0 d))
    ∗ (∃ d, ownsTc c w1M fullShare ((dats m ρ 0 c).before (1 : Fin 8) t0_0 d))
    ∗ (∃ d, ownsTc c w2M fullShare ((dats m ρ 0 c).before (2 : Fin 8) t0_0 d))
    ∗ (∃ d, ownsTc c w3M fullShare ((dats m ρ 0 c).before (3 : Fin 8) t0_0 d))
    ∗ (∃ d, ownsTc c w4M fullShare ((dats m ρ 0 c).before (4 : Fin 8) t0_0 d))
    ∗ (∃ d, ownsTc c w5M fullShare ((dats m ρ 0 c).before (5 : Fin 8) t0_0 d))
    ∗ (∃ d, ownsTc c w6M fullShare ((dats m ρ 0 c).before (6 : Fin 8) t0_0 d))
    ∗ (∃ d, ownsTc c oM fullShare ((dats m ρ 0 c).before (7 : Fin 8) t0_0 d)))
def post (c : Dev nD) : sProp 𝕄 :=
  iprop(Φ₁ (F := F) c ∗ (dats m ρ 0 c).owesAt 0 t0_0.succ
    ∗ ownsTc c xM fullShare ((ins m ρ).x c) ∗ ownsTc c w1M fullShare ((ins m ρ).wi 0 c) ∗ ownsTc c w2M fullShare ((ins m ρ).wo 0 c)
    ∗ ownsTc c w3M fullShare ((ins m ρ).wi 1 c) ∗ ownsTc c w4M fullShare ((ins m ρ).wo 1 c) ∗ ownsTc c w5M fullShare ((ins m ρ).wi 2 c)
    ∗ ownsTc c w6M fullShare ((ins m ρ).wo 2 c) ∗ ownsTc c oM fullShare (result (ins m ρ)))

theorem found (c : Dev nD) (w : Fin cfg0.W) (hf : (cfg0.win w).fetch t0_0 = true) (d) : (dats m ρ 0 c).before w t0_0 d = (dats m ρ 0 c).fetched w t0_0 d := by
  unfold Dat.before; rw [if_pos hf]

theorem run_body (c : Dev nD) : pre m ρ c ⊢ wp frame (wpE (defs₀ (F := F)) 𝒱₀ (c : Thread nD τ) none) Set.univ (bodyAt0 (F := F) t0_0) (fun _ => post m ρ c) := by
  rw [body_eq, wp_deviceId]
  unfold pre Φ₀ start
  iintro ⟨⟨⟨⟨%K, #HR⟩, #Hlev, #HB, Hbk, Hk, Hbar, Hpos⟩, Hbuf⟩, HO, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (Entails.of_eq (congrArg (ownsTc c xM fullShare) ((found m ρ c 0 (fetch0_0 _) d0).trans (show _ = (ins m ρ).x c from rfl)))) $$ H0
  ihave H1 := (Entails.of_eq (congrArg (ownsTc c w1M fullShare) ((found m ρ c 1 (fetch0_1 _) d1).trans (show _ = (ins m ρ).wi 0 c from rfl)))) $$ H1
  ihave H2 := (Entails.of_eq (congrArg (ownsTc c w2M fullShare) ((found m ρ c 2 (fetch0_2 _) d2).trans (show _ = (ins m ρ).wo 0 c from rfl)))) $$ H2
  ihave H3 := (Entails.of_eq (congrArg (ownsTc c w3M fullShare) ((found m ρ c 3 (fetch0_3 _) d3).trans (show _ = (ins m ρ).wi 1 c from rfl)))) $$ H3
  ihave H4 := (Entails.of_eq (congrArg (ownsTc c w4M fullShare) ((found m ρ c 4 (fetch0_4 _) d4).trans (show _ = (ins m ρ).wo 1 c from rfl)))) $$ H4
  ihave H5 := (Entails.of_eq (congrArg (ownsTc c w5M fullShare) ((found m ρ c 5 (fetch0_5 _) d5).trans (show _ = (ins m ρ).wi 2 c from rfl)))) $$ H5
  ihave H6 := (Entails.of_eq (congrArg (ownsTc c w6M fullShare) ((found m ρ c 6 (fetch0_6 _) d6).trans (show _ = (ins m ρ).wo 2 c from rfl)))) $$ H6
  unfold Dat.owesAt Pipeline.owesWithin
  icases HO with ⟨%W, %hW, HO⟩
  ihave HO := (show (owes (c : Thread nD τ) ((dats m ρ 0 c).owed t0_0.castSucc) W : sProp 𝕄) ⊢ owing c (O₀ c) from by
    unfold owing; iintro H; iexists W; iexact H) $$ HO
  iapply (wp_main (ins m ρ) K c fullShare (Q := fun _ => post m ρ c)) $$ [HO Hbk Hk Hbar Hpos Hbuf H0 H1 H2 H3 H4 H5 H6 H7]
  · isplitr; · iexact HR
    isplitr; · iexact Hlev
    isplitr; · iexact HB
    isplitl [HO]; · iexact HO
    isplitl [Hbk]; · iexact Hbk
    isplitl [Hk]; · iexact Hk
    isplitl [Hbar]; · iexact Hbar
    isplitl [Hpos]; · iexact Hpos
    isplitl [H0 H1 H2 H3 H4 H5 H6]
    · unfold args wts
      isplitl [H0]; · iexact H0
      isplitl [H1 H2]; · isplitl [H1] <;> iassumption
      isplitl [H3 H4]; · isplitl [H3] <;> iassumption
      isplitl [H5] <;> iassumption
    isplitl [H7]
    · iapply (free_intro (F := F) c oM _); iexact H7
    iexact Hbuf
  unfold post Φ₁ args wts owing Dat.owesAt Pipeline.owesWithin
  iintro ⟨⟨%W', HO⟩, ⟨H0, ⟨H1, H2⟩, ⟨H3, H4⟩, H5, H6⟩, H7, Hbuf, Hz⟩
  isplitl [Hbuf Hz]
  · isplitl [Hbuf] <;> iassumption
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxRecDepth 30000 in
theorem body_obligation (c : Dev nD) : BodyObligation (dats (F := F) m ρ 0 c) (defs₀ (F := F)) 𝒱₀ 0 Set.univ := fun t => by
  rw [fin_N0 t]
  rw [bigSep_W0, bigSep_W0]
  show pre m ρ c ⊢ wp frame (wpE (defs₀ (F := F)) 𝒱₀ (c : Thread nD τ) none) Set.univ (bodyAt0 (F := F) t0_0) (fun _ => post m ρ c)
  exact run_body m ρ c

end Cert.KernelIdealProof

end
-- ==== Proof.KernelIdealLaunch.lean ====
module

public import proofs.«01_k».proof.Proof.KernelIdealDats
public import Idealize.ShloMosaic.Lib.Pipeline.CollectiveSegs

/-! # The launch: what the devices are dealt, and the run -/

@[expose] public section

set_option synthInstance.maxSize 4096

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rows (R at2 tall rows third anyOf)

variable {F : FTy → Type} [FloatOps F]

local notation "𝕄" => MT nD τ sig ℕ (Elt F) ℕ UU ℕ

/-! ## The cells and the tokens -/

theorem cell_inj {c c' : Dev nD} {k k' : CK} (h : cell c k = cell c' k') : (c, k) = (c', k') :=
  Prod.ext (congrArg (fun g : GSem nD τ sig => g.1.1) h) (loc_inj (congrArg Prod.snd h))

def cells : Finset (GSem nD τ sig) := Finset.univ.map ⟨fun q : Dev nD × CK => cell q.1 q.2, fun _ _ h => cell_inj h⟩

/-- What a device pays: the barrier's units, what it sends, what its peers receive. -/
abbrev Pay : Type := Du ⊕ (Fin 14 × Fin 3) ⊕ (Fin 14 × Fin 3)

def payee (c : Dev nD) : Pay → (Dev nD × CK) × ℕ × Du
  | .inl d => ((peer (barKind d.1) c d.2, CK.bar), 0, (d.1, Fin.rev d.2))
  | .inr (.inl q) => ((c, CK.snd q.2), 4 * (q.1.val / 4) + (ak q.1.val).val, (0, 0))
  | .inr (.inr q) => ((peer (ak q.1.val) c q.2, CK.rcv (ak q.1.val) (Fin.rev q.2)), q.1.val / 4, (0, 0))

/-- The payer read off the payment. -/
def payer : (Dev nD × CK) × ℕ × Du → Dev nD × Pay
  | ((c, none), _, d) => (peer (barKind d.1) c d.2, .inl (d.1, Fin.rev d.2))
  | ((c, some (none, e)), i, _) => (c, .inr (.inl (Fin.ofNat 14 i, e)))
  | ((c, some (some a, s)), r, _) => (peer a c s, .inr (.inr (Fin.ofNat 14 (4 * r + a.val), Fin.rev s)))

theorem num (i : Fin 14) : Fin.ofNat 14 (4 * (i.val / 4) + (ak i.val).val) = i :=
  Fin.ext (by show (4 * (i.val / 4) + i.val % 4) % 14 = i.val; omega)

theorem payer_payee (c : Dev nD) (j : Pay) : payer (payee c j) = (c, j) := by
  match j with
  | .inl d =>
    show (peer (barKind d.1) (peer (barKind d.1) c d.2) (Fin.rev d.2), (Sum.inl (d.1, Fin.rev (Fin.rev d.2)) : Pay)) = _
    rw [peer_peer, Fin.rev_rev]
  | .inr (.inl q) =>
    show (c, (Sum.inr (Sum.inl (Fin.ofNat 14 (4 * (q.1.val / 4) + (ak q.1.val).val), q.2)) : Pay)) = _
    rw [num]
  | .inr (.inr q) =>
    show (peer (ak q.1.val) (peer (ak q.1.val) c q.2) (Fin.rev q.2), (Sum.inr (Sum.inr (Fin.ofNat 14 (4 * (q.1.val / 4) + (ak q.1.val).val), Fin.rev (Fin.rev q.2))) : Pay)) = _
    rw [peer_peer, Fin.rev_rev, num]

abbrev tokOf (q : Dev nD × Pay) : GSem nD τ sig × ℕ × Du := (cell (payee q.1 q.2).1.1 (payee q.1 q.2).1.2, (payee q.1 q.2).2)
theorem tokOf_inj : Function.Injective tokOf := fun p q h => by
  have h2 : (payee p.1 p.2).2 = (payee q.1 q.2).2 := congrArg (fun x : GSem nD τ sig × ℕ × Du => x.2) h
  have h1 : payee p.1 p.2 = payee q.1 q.2 := Prod.ext (cell_inj (congrArg (fun x : GSem nD τ sig × ℕ × Du => x.1) h)) h2
  exact (payer_payee p.1 p.2).symm.trans ((congrArg payer h1).trans (payer_payee q.1 q.2))
def tokens : Finset (GSem nD τ sig × ℕ × Du) := Finset.univ.map ⟨tokOf, tokOf_inj⟩

def u₀ : UU := (initOf (Pipeline.cells cfgs cellOf_inj) (Pipeline.launchToks cfgs cellOf_inj), initOf cells tokens)

/-- A device's tokens. -/
def toks (c : Dev nD) : sProp 𝕄 := bigSep Finset.univ fun j : Pay => dutyTok ER (tokOf (c, j)).1 (tokOf (c, j)).2.1 (tokOf (c, j)).2.2

omit [FloatOps F] in
theorem toks_eq (c : Dev nD) : toks (F := F) c
    = iprop((three (tellTok (F := F) c 0) ∗ three (tellTok (F := F) c 1))
      ∗ (bigSep Finset.univ fun q : Fin 14 × Fin 3 => dutyTok ER (cell c (CK.snd q.2)) (4 * (q.1.val / 4) + (ak q.1.val).val) (0, 0))
      ∗ (bigSep Finset.univ fun q : Fin 14 × Fin 3 => dutyTok ER (cell (peer (ak q.1.val) c q.2) (CK.rcv (ak q.1.val) (Fin.rev q.2))) (q.1.val / 4) (0, 0))) := by
  unfold toks
  rw [bigSep_univ_sum, bigSep_univ_sum, bigSep_univ_prod, bigSep_univ_two, bigSep_three, bigSep_three]
  rfl

omit [FloatOps F] in
theorem sepA (P Q R : sProp 𝕄) : iprop((P ∗ Q) ∗ R) = iprop(P ∗ Q ∗ R) := BI.equiv_iff.mp ⟨BI.sep_assoc, BI.sep_assoc'⟩

/-! ## The sixteen cells of a device -/

omit [FloatOps F] in
theorem bigSep_cells (f : CK → sProp 𝕄) : bigSep Finset.univ f
    = iprop(three (fun e => f (CK.snd e)) ∗ three (fun e => f (CK.rcv 0 e)) ∗ three (fun e => f (CK.rcv 1 e)) ∗ three (fun e => f (CK.rcv 2 e)) ∗ three (fun e => f (CK.rcv 3 e)) ∗ f CK.bar) := by
  refine (BI.bigSep_univ_eq_bigSepL [CK.snd 0, CK.snd 1, CK.snd 2, CK.rcv 0 0, CK.rcv 0 1, CK.rcv 0 2, CK.rcv 1 0, CK.rcv 1 1, CK.rcv 1 2,
    CK.rcv 2 0, CK.rcv 2 1, CK.rcv 2 2, CK.rcv 3 0, CK.rcv 3 1, CK.rcv 3 2, CK.bar] (by decide) (by decide) f).trans ?_
  simp only [sepA]
  rfl

/-- The kernel's own semaphores. -/
abbrev osem (k : Option (Fin 4) × Fin 3) : SemLoc sig := loc (some k)
theorem ownSemFacts : Pipeline.OwnSemFacts cfg0.spec osem := by decide

omit [FloatOps F] in
theorem ownSems0_eq (c : Dev nD) : (Pipeline.ownSems0 (Ix := ℕ) (Name := ℕ) (U := UU) (Lvl := ℕ) (Val := Elt F) (τ := τ) osem c : sProp 𝕄)
    = iprop(three (fun e => semVal (cell c (CK.snd e)) 0) ∗ three (fun e => semVal (cell c (CK.rcv 0 e)) 0) ∗ three (fun e => semVal (cell c (CK.rcv 1 e)) 0)
      ∗ three (fun e => semVal (cell c (CK.rcv 2 e)) 0) ∗ three (fun e => semVal (cell c (CK.rcv 3 e)) 0)) := by
  rw [Pipeline.ownSems0_eq_of_list c osem [(none, 0), (none, 1), (none, 2), (some 0, 0), (some 0, 1), (some 0, 2), (some 1, 0), (some 1, 1), (some 1, 2),
    (some 2, 0), (some 2, 1), (some 2, 2), (some 3, 0), (some 3, 1), (some 3, 2)] (by decide) (by decide)]
  simp only [sepA]
  rfl
omit [FloatOps F] in
theorem unscopedSems0_eq (c : Dev nD) : (unscopedSems0 c : sProp 𝕄) = semVal (cell c CK.bar) 0 := by
  unfold unscopedSems0; rw [bigSep_eq_bigSepL_of_eq [SemLoc.reg bsem] (by decide) (by decide)]; rfl

omit [FloatOps F] in
theorem sems_eq (c : Dev nD) :
    iprop(Pipeline.ownSems0 (Ix := ℕ) (Name := ℕ) (U := UU) (Lvl := ℕ) (Val := Elt F) (τ := τ) osem c ∗ unscopedSems0 c)
      = (bigSep Finset.univ fun k : CK => semVal (cell c k) 0 : sProp 𝕄) := by
  rw [ownSems0_eq, unscopedSems0_eq, bigSep_cells]
  simp only [sepA]

/-! ## The credits -/

omit [FloatOps F] in
theorem cred_of (a : Fin 4) (k : CK) (e : Fin 3) (i n : ℕ) (c : Dev nD) :
    (Pipeline.launchCred (fun d => tallyAt (cell (peer a d e) k) i n) c : sProp 𝕄) ⊢ cred (tallyAt (cell c k) i n) :=
  Pipeline.launchCred_tallyAt (loc k) (fun d => peer a d e) (fun d => peer a d (Fin.rev e)) (fun d => by have := peer_peer a d (Fin.rev e); rwa [Fin.rev_rev] at this) (fun d => peer_peer a d e) i n c

omit [FloatOps F] in
theorem cred_due (c : Dev nD) (a : Fin 4) (r : ℕ) :
    (Pipeline.launchCred (fun d => due d a r) c : sProp 𝕄) ⊢ bigSep Finset.univ fun e : Fin 3 => cred (tallyAt (cell c (CK.rcv a e)) (4 * r + a.val + 2) (N a)) := by
  unfold due
  rw [Pipeline.launchCred_sum, bigSep_univ_equiv Fin.revPerm (fun e : Fin 3 => (cred (tallyAt (cell c (CK.rcv a e)) (4 * r + a.val + 2) (N a)) : sProp 𝕄))]
  exact bigSep_mono fun e _ => cred_of a (CK.rcv a (Fin.rev e)) e _ _ c

omit [FloatOps F] in
theorem Orem_all (d : Dev nD) : Orem d 0 = ∑ i : Fin 14, due d (ak i.val) (i.val / 4) := by
  unfold Orem; rw [Nat.Ico_zero_eq_range, Finset.sum_range]

omit [FloatOps F] in
theorem six (g : GSem nD τ sig) : (∑ d : Du, tallyAt g 1 1) = (tallyAt g 1 6 : CellTallies nD τ sig ℕ) := by
  rw [Fintype.sum_prod_type]
  simp only [Fin.sum_univ_two, Fin.sum_univ_three, tallyAt_add]

omit [FloatOps F] in
theorem creds (c : Dev nD) : (Pipeline.launchCred O₀ c : sProp 𝕄)
    ⊢ iprop((bigSep Finset.univ fun q : Fin 14 × Fin 3 => cred (tallyAt (cell c (CK.rcv (ak q.1.val) q.2)) (4 * (q.1.val / 4) + (ak q.1.val).val + 2) (N (ak q.1.val))))
      ∗ cred (tallyAt (cell c CK.bar) 1 6)) := by
  rw [show (O₀ : Dev nD → CellTallies nD τ sig ℕ) = fun d => (∑ i : Fin 14, due d (ak i.val) (i.val / 4)) + ∑ q : Du, tallyAt (cell (peer (barKind q.1) d q.2) CK.bar) 1 1 from
    funext fun d => by unfold O₀ barDue; rw [Orem_all]]
  rw [Pipeline.launchCred_add (fun d => ∑ i : Fin 14, due d (ak i.val) (i.val / 4)) (fun d => ∑ q : Du, tallyAt (cell (peer (barKind q.1) d q.2) CK.bar) 1 1) c]
  refine Idealize.SL.BI.BIClass.sep_mono ?_ ?_
  · rw [Pipeline.launchCred_sum, bigSep_univ_prod]
    exact bigSep_mono fun i _ => cred_due c (ak i.val) (i.val / 4)
  · rw [Pipeline.launchCred_sum, ← six, Pipeline.cred_finsetSum]
    exact bigSep_mono fun q _ => cred_of (barKind q.1) CK.bar q.2 1 1 c

omit [FloatOps F] in
theorem bigSep_fourteen (f : Fin 14 → sProp 𝕄) : bigSep Finset.univ f
    = iprop((f 0 ∗ f 1) ∗ ((f 2 ∗ f 3) ∗ (f 4 ∗ f 5)) ∗ ((f 6 ∗ f 7) ∗ (f 8 ∗ f 9)) ∗ ((f 10 ∗ f 11) ∗ (f 12 ∗ f 13))) := by
  refine (BI.bigSep_univ_eq_bigSepL [0, 1, 2, 3, 4, 5, 6, 7, 8, 9, 10, 11, 12, 13] (by decide) (by decide) f).trans ?_
  simp only [sepA]
  rfl

omit [FloatOps F] in
/-- The tokens and the credits, exchange by exchange. -/
theorem deal (c : Dev nD) : iprop(toks (F := F) c ∗ Pipeline.launchCred O₀ c) ⊢ iprop(barKit (F := F) c ∗ kits (F := F) c) := by
  have hk : (bigSep Finset.univ fun q : Fin 14 × Fin 3 => (kit (F := F) c (ak q.1.val) (q.1.val / 4) q.2 : sProp 𝕄)) = kits (F := F) c := by
    rw [bigSep_univ_prod, bigSep_fourteen]
    simp only [bigSep_three]
    rfl
  rw [toks_eq]
  iintro ⟨⟨⟨HT0, HT1⟩, HS, HR⟩, HC⟩
  ihave HC := (creds (F := F) c) $$ HC
  icases HC with ⟨HC, HB⟩
  unfold barKit
  isplitl [HT0 HT1 HB]
  · isplitl [HT0]; · iexact HT0
    isplitl [HT1] <;> iassumption
  rw [← hk]
  unfold kit
  rw [bigSep_sep', bigSep_sep']
  isplitl [HS]; · iexact HS
  isplitl [HR] <;> iassumption

variable (m : (ℓ : Loc nD τ sig) → Buf (Elt F) ℓ) (ρ : Dev nD → PrngReg)

/-! ## From the launch's element to the devices' starts -/

/-- What the launch's element gives a device. -/
def G (c : Dev nD) : sProp 𝕄 :=
  iprop((bigSep Finset.univ fun k : CK => roundState ER (Rd (ins m ρ)) (cell c k) 0)
    ∗ (bigSep Finset.univ fun k : CK => (atPos ER (cell c k) 0 ∅ 0 : sProp 𝕄)) ∗ (bigSep Finset.univ fun k : CK => (reached ER (cell c k) 0 : sProp 𝕄)) ∗ toks (F := F) c)
/-- What the allocation makes of it. -/
def G' (c : Dev nD) : sProp 𝕄 :=
  iprop((∃ K, records (ins m ρ) K) ∗ bars (F := F) ∗ (bigSep Finset.univ fun k : CK => pos (F := F) c k 0) ∗ toks (F := F) c)

theorem fund_cells : BI.own (ER (initOf cells tokens)) ⊢ (|==> bigSep Finset.univ (G m ρ) : sProp 𝕄) := by
  have hc (f : GSem nD τ sig → sProp 𝕄) : bigSep cells f = bigSep Finset.univ fun c : Dev nD => bigSep Finset.univ fun k : CK => f (cell c k) := by
    unfold cells; rw [bigSep_map, bigSep_univ_prod]; rfl
  have ht : bigSep tokens (fun x => (dutyTok ER x.1 x.2.1 x.2.2 : sProp 𝕄)) = bigSep Finset.univ fun c : Dev nD => toks (F := F) c := by
    unfold tokens toks; rw [bigSep_map, bigSep_univ_prod]; rfl
  iintro HX
  imod (Rounds.fund ER (Rd (ins m ρ)) cells tokens) $$ HX with ⟨Hst, Hr, Hat, Htok⟩
  imodintro
  ihave Hst := (Entails.of_eq (hc fun g => roundState ER (Rd (ins m ρ)) g 0)) $$ Hst
  ihave Hat := (Entails.of_eq (hc fun g => atPos ER g 0 ∅ 0)) $$ Hat
  ihave Hr := (Entails.of_eq (hc fun g => reached ER g 0)) $$ Hr
  ihave Htok := (Entails.of_eq ht) $$ Htok
  unfold G
  rw [bigSep_sep', bigSep_sep', bigSep_sep']
  isplitl [Hst]; · iexact Hst
  isplitl [Hat]; · iexact Hat
  isplitl [Hr] <;> iassumption

/-- One device's cells opened. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd (ins m ρ)) κ (cell c k)))
          ∗ (bigSep Finset.univ fun k : CK => (atPos ER (cell c k) 0 ∅ 0 : sProp 𝕄)) ∗ (bigSep Finset.univ fun k : CK => (reached ER (cell c k) 0 : sProp 𝕄)) ∗ toks (F := F) c) := by
  unfold G
  iintro ⟨Hos, Hus, Hst, Hat, Hr, Htok⟩
  ihave Hv := (Entails.of_eq (sems_eq (F := F) c)) $$ [Hos Hus]
  · isplitl [Hos] <;> iassumption
  imod (show iprop((bigSep Finset.univ fun k : CK => semVal (cell c k) 0) ∗ bigSep Finset.univ fun k : CK => roundState ER (Rd (ins m ρ)) (cell c k) 0)
      ⊢ (|={Set.univ}=> bigSep Finset.univ fun k : CK => iprop(∃ κ : ℕ, cellInv ER (Rd (ins m ρ)) κ (cell c k)) : sProp 𝕄) from by
        rw [← bigSep_sep']
        exact (bigSep_mono fun k _ => (Rounds.body_intro ER (Rd (ins m ρ)) (cell c k)).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- Every cell has reached its first round. -/
def firsts : sProp 𝕄 := bigSep Finset.univ fun q : Dev nD × CK => (reached ER (cell q.1 q.2) 0 : sProp 𝕄)
instance firsts_persistent : BI.Persistent (firsts (F := F)) := by unfold firsts; infer_instance
omit [FloatOps F] in
theorem first_at (q : Dev nD × CK) : firsts (F := F) ⊢ (reached ER (cell q.1 q.2) 0 : sProp 𝕄) :=
  bigSep_elim (Φ := fun q : Dev nD × CK => (reached ER (cell q.1 q.2) 0 : sProp 𝕄)) (Finset.mem_univ q)

omit [FloatOps F] in
/-- What all may use, put to each. -/
theorem spread {ι : Type} [DecidableEq ι] (S : Finset ι) (P : sProp 𝕄) [BI.Persistent P] (f g : ι → sProp 𝕄) (h : ∀ i, iprop(P ∗ f i) ⊢ g i) :
    iprop(P ∗ bigSep S f) ⊢ bigSep S g :=
  (sep_mono_left (BI.bigSep_of_persistent S P)).trans (by rw [← bigSep_sep']; exact bigSep_mono fun i _ => h i)

theorem each (K : Dev nD × CK → ℕ) (c : Dev nD) :
    iprop((records (ins m ρ) K ∗ firsts (F := F)) ∗ (bigSep Finset.univ fun k : CK => (atPos ER (cell c k) 0 ∅ 0 : sProp 𝕄)) ∗ toks (F := F) c) ⊢ G' m ρ c := by
  unfold G'
  iintro ⟨⟨#HR, #HF⟩, Hat, Htok⟩
  isplitr; · iexists K; iexact HR
  isplitr
  · unfold bars
    iapply ((BI.bigSep_of_persistent Finset.univ (firsts (F := F))).trans (bigSep_mono fun d _ => first_at (F := F) (d, CK.bar))); iexact HF
  isplitl [Hat]
  · iapply (spread (F := F) Finset.univ firsts (fun k : CK => (atPos ER (cell c k) 0 ∅ 0 : sProp 𝕄)) (fun k => pos (F := F) c k 0) (fun k => by
      unfold pos
      iintro ⟨HF, Ha⟩
      isplitl [Ha]; · iexact Ha
      iapply (first_at (F := F) (c, k)); iexact HF))
    isplitr; · iexact HF
    iexact Hat
  iexact Htok

theorem regroup :
    (bigSep Finset.univ fun c : Dev nD => iprop((bigSep Finset.univ fun k : CK => iprop(∃ κ : ℕ, cellInv ER (Rd (ins m ρ)) κ (cell c k)))
          ∗ (bigSep Finset.univ fun k : CK => (atPos ER (cell c k) 0 ∅ 0 : sProp 𝕄)) ∗ (bigSep Finset.univ fun k : CK => (reached ER (cell c k) 0 : sProp 𝕄)) ∗ toks (F := F) c) : sProp 𝕄)
      ⊢ bigSep Finset.univ (G' m ρ) := by
  rw [bigSep_sep', bigSep_sep', bigSep_sep', ← bigSep_univ_prod (fun q : Dev nD × CK => iprop(∃ κ : ℕ, cellInv ER (Rd (ins m ρ)) κ (cell q.1 q.2))),
    ← bigSep_univ_prod (fun q : Dev nD × CK => (reached ER (cell q.1 q.2) 0 : sProp 𝕄))]
  iintro ⟨HI, Hat, Hr, Htok⟩
  ihave HK := (BI.bigSep_exists_pi Finset.univ (fun (q : Dev nD × CK) (κ : ℕ) => (cellInv ER (Rd (ins m ρ)) κ (cell q.1 q.2) : sProp 𝕄))) $$ HI
  icases HK with ⟨%K, HI⟩
  iapply (spread (F := F) Finset.univ iprop(records (ins m ρ) K ∗ firsts (F := F))
    (fun c : Dev nD => iprop((bigSep Finset.univ fun k : CK => (atPos ER (cell c k) 0 ∅ 0 : sProp 𝕄)) ∗ toks (F := F) c)) (G' m ρ) (each m ρ K))
  isplitl [HI Hr]
  · unfold records firsts
    isplitl [HI] <;> iassumption
  rw [bigSep_sep']
  isplitl [Hat] <;> iassumption

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## Into the call and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G'
  rw [bigSep_cells]
  iintro ⟨-, Hlev, Hcr, -, HR, HB, ⟨HpS, Hp0, Hp1, Hp2, Hp3, Hpb⟩, Htok⟩
  ihave Hd := (deal (F := F) c) $$ [Htok Hcr]
  · isplitl [Htok] <;> iassumption
  icases Hd with ⟨Hbk, Hk⟩
  imodintro
  unfold start poss
  isplitl
  · isplitl [HR]; · iexact HR
    isplitl [Hlev]; · iexact Hlev
    isplitl [HB]; · iexact HB
    isplitl [Hbk]; · iexact Hbk
    isplitl [Hk]; · iexact Hk
    isplitl [Hpb]; · iexact Hpb
    isplitl [HpS]; · iexact HpS
    isplitl [Hp0]; · iexact Hp0
    isplitl [Hp1]; · iexact Hp1
    isplitl [Hp2] <;> iassumption
  · iempintro

omit [FloatOps F] in
/-- A whole buffer at any contents. -/
theorem free_whole (c : Dev nD) (b : Ref sig .tc) : (anyOf (c : Thread nD τ) (Memref.whole b) : sProp 𝕄) = iprop(∃ f : Buf (Elt F) ((c : Thread nD τ).loc b), ((c : Thread nD τ).loc b) ↦{fullShare} f) := by
  refine BI.equiv_iff.mp ⟨show (_ : sProp 𝕄) ⊢ _ from ?_, ?_⟩
  · unfold Rows.anyOf owns
    simp only [Memref.view_whole, View.read_whole, View.set_whole]
    iintro ⟨%v, %f, -, H⟩
    iexists f; iexact H
  · unfold Rows.anyOf owns
    simp only [Memref.view_whole, View.read_whole, View.set_whole]
    show (iprop(∃ f : Buf (Elt F) ((c : Thread nD τ).loc b), ((c : Thread nD τ).loc b) ↦{fullShare} f) : sProp 𝕄) ⊢ _
    iintro ⟨%f, H⟩
    iexists f; iexists f
    isplitr; · (ipureintro; rfl)
    iexact H

omit [FloatOps F] in
theorem rest_eq (c : Dev nD) : (Pipeline.scopedRest (Ix := ℕ) (Name := ℕ) (U := UU) (Lvl := ℕ) (Val := Elt F) cfg0.spec c : sProp 𝕄) = bufs (F := F) c := by
  unfold bufs
  rw [show (cfg0.spec : _) = spec0 from rfl, scopedRest0_eq]
  rw [← free_whole (F := F) c cc0_scratch0, ← free_whole (F := F) c cc0_scratch1, ← free_whole (F := F) c cc0_scratch2, ← free_whole (F := F) c cc0_scratch3, ← free_whole (F := F) c cc0_scratch4]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, rest_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, rest_eq, ownSems0_eq, unscopedSems0_eq]
  unfold Φ₁ zeros
  iintro ⟨Hr, HzS, Hz0, Hz1, Hz2, Hz3, HzB⟩
  isplitl [HzB]; · iexact HzB
  isplitr [Hr]
  · isplitl [HzS]; · iexact HzS
    isplitl [Hz0]; · iexact Hz0
    isplitl [Hz1]; · iexact Hz1
    isplitl [Hz2] <;> iassumption
  iexact Hr

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) 0 0 c :=
  Pipeline.cellsWaits_intro cfgs (dats m ρ) 0 0 c fun w s t => mayWait c _ 0 (by decide) _ (by
    rcases t with ⟨_ | _, ht⟩
    · exact above_O₀ c
    · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 30000 in
/-- From any memory, with every semaphore at zero, all devices finish; their arrays hold what the last layer gives, and
    every semaphore is at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof

end
-- ==== Proof.KernelIdealEnds.lean ====
module

public import proofs.«01_k».proof.Proof.KernelIdealLaunch
public import Idealize.ShloMosaic.Lib.Pipeline.ValueKit.Geometry

/-! # What every device ends with -/

@[expose] public section

set_option synthInstance.maxSize 4096

noncomputable section

namespace Cert.KernelIdealProof

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-- The result array is written whole, once. -/
theorem finalA_out (c : Dev nD) : finalA m ρ c (7 : Fin 8) = result (ins m ρ) :=
  (dats m ρ 0 c).arrAt_eq_of_after_last (7 : Fin 8) t0_0 (by decide +kernel) (result (ins m ρ)) fun j => rfl

/-- All devices finish with the last layer's rows in the result, their arguments as they were, every semaphore at zero. -/
theorem ends : θ_run defs (onTc (τ := τ) (main (F := F))) ⟨m, fun _ => 0, ρ⟩ (fun r => (∀ c : Dev nD,
      r.2.mem ((c.tc : Thread nD τ).loc main_v1) = result (ins m ρ)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c (7 : Fin 8)).trans (finalA_out m ρ c),
      (h.1 c (0 : Fin 8)).trans ((dats m ρ 0 c).arrAt_in (0 : Fin 8) rfl _),
      (h.1 c (1 : Fin 8)).trans ((dats m ρ 0 c).arrAt_in (1 : Fin 8) rfl _),
      (h.1 c (3 : Fin 8)).trans ((dats m ρ 0 c).arrAt_in (3 : Fin 8) rfl _),
      (h.1 c (5 : Fin 8)).trans ((dats m ρ 0 c).arrAt_in (5 : Fin 8) rfl _),
      (h.1 c (2 : Fin 8)).trans ((dats m ρ 0 c).arrAt_in (2 : Fin 8) rfl _),
      (h.1 c (4 : Fin 8)).trans ((dats m ρ 0 c).arrAt_in (4 : Fin 8) rfl _),
      (h.1 c (6 : Fin 8)).trans ((dats m ρ 0 c).arrAt_in (6 : Fin 8) rfl _)⟩, h.2⟩) (run_main m ρ)

/-- An index with every coordinate kept is the index. -/
theorem idx_same {n k : ℕ} (v i : (⟨2, ![n, k]⟩ : Shape).Idx) (h0 : (v 0).val = 0 + 1 * (i 0).val) (h1 : (v 1).val = 0 + 1 * (i 1).val) : v = i := by
  funext a
  refine Fin.ext ?_
  match a with
  | ⟨0, _⟩ => exact h0.trans ((Nat.zero_add _).trans (Nat.one_mul _))
  | ⟨1, _⟩ => exact h1.trans ((Nat.zero_add _).trans (Nat.one_mul _))

/-- The staged inputs are the argument arrays. -/
theorem ins_x (c : Dev nD) : (ins m ρ).x c = m ((c.tc : Thread nD τ).loc main_arg0) :=
  funext fun i => congrArg (m ((c.tc : Thread nD τ).loc main_arg0)) (idx_same _ i rfl rfl)
theorem ins_wi0 (c : Dev nD) : (ins m ρ).wi 0 c = m ((c.tc : Thread nD τ).loc main_arg1) :=
  funext fun i => congrArg (m ((c.tc : Thread nD τ).loc main_arg1)) (idx_same _ i rfl rfl)
theorem ins_wi1 (c : Dev nD) : (ins m ρ).wi 1 c = m ((c.tc : Thread nD τ).loc main_arg2) :=
  funext fun i => congrArg (m ((c.tc : Thread nD τ).loc main_arg2)) (idx_same _ i rfl rfl)
theorem ins_wi2 (c : Dev nD) : (ins m ρ).wi 2 c = m ((c.tc : Thread nD τ).loc main_arg3) :=
  funext fun i => congrArg (m ((c.tc : Thread nD τ).loc main_arg3)) (idx_same _ i rfl rfl)
theorem ins_wo0 (c : Dev nD) : (ins m ρ).wo 0 c = m ((c.tc : Thread nD τ).loc main_arg4) :=
  funext fun i => congrArg (m ((c.tc : Thread nD τ).loc main_arg4)) (idx_same _ i rfl rfl)
theorem ins_wo1 (c : Dev nD) : (ins m ρ).wo 1 c = m ((c.tc : Thread nD τ).loc main_arg5) :=
  funext fun i => congrArg (m ((c.tc : Thread nD τ).loc main_arg5)) (idx_same _ i rfl rfl)
theorem ins_wo2 (c : Dev nD) : (ins m ρ).wo 2 c = m ((c.tc : Thread nD τ).loc main_arg6) :=
  funext fun i => congrArg (m ((c.tc : Thread nD τ).loc main_arg6)) (idx_same _ i rfl rfl)

end Cert.KernelIdealProof

end
-- ==== Proof.Layers.lean ====
module

public import Idealize.ShloMosaic.Lib.ValueIdx
public import Mathlib.Algebra.BigOperators.Fin

/-! # One layer of exact arithmetic

A layer sends a row to the sum, over its hidden units, of the unit's positive part times its outgoing weights. Hidden
units may be summed sixteen groups at a time, and the groups in the order a four by four mesh meets them. -/

@[expose] public section

noncomputable section

namespace Cert.Layers

open scoped BigOperators

/-- A row `u` through a layer of `K` hidden units, at column `j`. -/
def mlp {K : ℕ} (u : Fin 256 → EReal) (A : Fin 256 → Fin K → EReal) (B : Fin K → Fin 256 → EReal) (j : Fin 256) : EReal :=
  ∑ h, max (∑ k, u k * A k h) 0 * B h j

/-- A sum over 8192 is sixteen sums over 512. -/
theorem sum_groups (f : Fin 8192 → EReal) : ∑ H, f H = ∑ s : Fin 16, ∑ h : Fin 512, f ⟨512 * s.val + h.val, by omega⟩ := by
  rw [← Fintype.sum_prod_type', ← Equiv.sum_comp (finProdFinEquiv (m := 16) (n := 512))]
  refine Finset.sum_congr rfl fun q _ => congrArg f (Fin.ext ?_)
  show q.2.val + 512 * q.1.val = 512 * q.1.val + q.2.val
  exact Nat.add_comm _ _

/-- A layer is the sum of its sixteen groups of hidden units. -/
theorem mlp_groups (u : Fin 256 → EReal) (A : Fin 256 → Fin 8192 → EReal) (B : Fin 8192 → Fin 256 → EReal) (j : Fin 256) :
    mlp u A B j = ∑ s : Fin 16, mlp u (fun k (h : Fin 512) => A k ⟨512 * s.val + h.val, by omega⟩) (fun h => B ⟨512 * s.val + h.val, by omega⟩) j :=
  sum_groups _

/-- Four terms met in order from any one of them are all four. -/
theorem turn (g : Fin 4 → EReal) (z : Fin 4) (e : Fin 3 → Fin 4) (he : ∀ i : Fin 3, (e i).val = (z.val + i.val + 1) % 4) :
    g z + g (e 0) + g (e 1) + g (e 2) = ∑ y, g y := by
  have h0 : e 0 = ⟨(z.val + 0 + 1) % 4, Nat.mod_lt _ (by decide)⟩ := Fin.ext (he 0)
  have h1 : e 1 = ⟨(z.val + 1 + 1) % 4, Nat.mod_lt _ (by decide)⟩ := Fin.ext (he 1)
  have h2 : e 2 = ⟨(z.val + 2 + 1) % 4, Nat.mod_lt _ (by decide)⟩ := Fin.ext (he 2)
  rw [h0, h1, h2, Fin.sum_univ_four]
  fin_cases z
  · rfl
  · show g 1 + g 2 + g 3 + g 0 = _; ac_rfl
  · show g 2 + g 3 + g 0 + g 1 = _; ac_rfl
  · show g 3 + g 0 + g 1 + g 2 = _; ac_rfl

end Cert.Layers

end
-- ==== Proof.RefLayers.lean ====
module

public import proofs.«01_k».proof.Proof.Gen.ReferenceIdeal.Run
public import proofs.«01_k».proof.Proof.Layers
public import Idealize.ShloMosaic.Lib.StackMember
public import Idealize.ShloMosaic.Lib.Quiescent

/-! # The reference, layer by layer -/

@[expose] public section

noncomputable section

namespace Cert.RefLayers

open Cert.ReferenceIdeal Cert.ReferenceIdeal.Gen
open Idealize.ShloMosaic Idealize.ShloMosaic.TcCoe Idealize.ShloMosaic.ValueIdx Idealize.SL.Sem
open Cert.Layers
open scoped BigOperators

/-- One layer of the reference. -/
def layer (X : FVec Ideal S8192x256 .bf16) (A : FVec Ideal S256x8192 .bf16) (B : FVec Ideal S8192x256 .bf16) : FVec Ideal S8192x256 .bf16 :=
  truncf .bf16 (Host.dotGeneral dot_S8192x8192_S8192x256_S8192x256_1_0_0_1_n_n none
    (maximumf (truncf .bf16 (Host.dotGeneral dot_S8192x256_S256x8192_S8192x8192_1_0_0_1_n_n none X A) bitsLt_bf16_f32)
      (broadcastInDim S8192x8192 ![] bcast_S_S8192x8192 (constant S_ .bf16 0x0000#16))) B) bitsLt_bf16_f32

theorem zero_bf16 : Ideal.ofBits .bf16 0x0000#16 = 0 := by simp [Ideal.ofBits, Ideal.ieee]

theorem layer_at (X : FVec Ideal S8192x256 .bf16) (A : FVec Ideal S256x8192 .bf16) (B : FVec Ideal S8192x256 .bf16) (r : Fin 8192) (j : Fin 256) :
    layer X A B (ix2 r j) = mlp (fun k => X (ix2 r k)) (fun k h => A (ix2 k h)) (fun h j => B (ix2 h j)) j := by
  unfold layer
  rw [truncf_apply]
  refine (StackMember.dotGeneral_plain_apply (m := 8192) (k := 8192) (n := 256) (φ₁ := .bf16) (φ₂ := .bf16) none _ _ r j).trans ?_
  refine Finset.sum_congr rfl fun h _ => congrArg (· * _) ?_
  rw [maximumf_apply, truncf_apply]
  refine congrArg₂ max ?_ zero_bf16
  exact StackMember.dotGeneral_plain_apply (m := 8192) (k := 256) (n := 8192) (φ₁ := .bf16) (φ₂ := .bf16) none _ _ r h

variable (m : (ℓ : Loc nD τ sig) → Buf (Elt Ideal) ℓ) (ρ : Dev nD → PrngReg)

/-- A layer's weights. -/
def wIn : ℕ → FVec Ideal S256x8192 .bf16
  | 0 => m (((0 : Dev nD).tc : Thread nD τ).loc main_arg1)
  | 1 => m (((0 : Dev nD).tc : Thread nD τ).loc main_arg2)
  | _ => m (((0 : Dev nD).tc : Thread nD τ).loc main_arg3)
def wOut : ℕ → FVec Ideal S8192x256 .bf16
  | 0 => m (((0 : Dev nD).tc : Thread nD τ).loc main_arg4)
  | 1 => m (((0 : Dev nD).tc : Thread nD τ).loc main_arg5)
  | _ => m (((0 : Dev nD).tc : Thread nD τ).loc main_arg6)

/-- The rows entering layer `n`. -/
def rowsAt : ℕ → FVec Ideal S8192x256 .bf16
  | 0 => m (((0 : Dev nD).tc : Thread nD τ).loc main_arg0)
  | n + 1 => layer (rowsAt n) (wIn m n) (wOut m n)

/-- What the reference ends with. -/
theorem ends : θ_run defs (onTc (τ := τ) (main (F := Ideal))) ⟨m, fun _ => 0, ρ⟩ (fun r =>
      r.2.mem (((0 : Dev nD).tc : Thread nD τ).loc main_v18) = (extf .f32 (rowsAt m 3) bitsLt_bf16_f32 : FVec Ideal S8192x256 .f32)
      ∧ (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0) :=
  (θ_run defs _ _).mono (fun r h => ⟨(h 0).1, fun c => (h c).2, sem_eq_zero_of_no_sems rfl r.2⟩) (Value.run m ρ)

end Cert.RefLayers

end
-- ==== Proof.KernelIdealLayers.lean ====
module

public import proofs.«01_k».proof.Proof.KernelIdealSched
public import proofs.«01_k».proof.Proof.Layers
public import Idealize.ShloMosaic.Lib.MatmulPlain
public import Idealize.ShloMosaic.Lib.Pipeline.Value

/-! # The kernel's layer in exact arithmetic

What a device keeps of a layer is its rows through all sixteen devices' hidden units. -/

@[expose] public section

set_option synthInstance.maxSize 4096

noncomputable section

namespace Cert.KernelIdealProof

open Cert.KernelIdeal Cert.KernelIdeal.Gen
open Idealize.ShloMosaic Idealize.ShloMosaic.ValueIdx
open Cert.Rows (R at2 tall)
open Cert.Layers
open scoped BigOperators

/-- A product of the kernel, row by row. -/
theorem pay7_at (a : Vec Ideal S256x512 .bf16) (b : Vec Ideal S512x256 .bf16) (x : Vec Ideal S2048x256 .bf16) (r : Fin 2048) (j : Fin 256) :
    k0_pay7 a b x (ix2 r j) = mlp (fun k => x (ix2 r k)) (fun k h => a (ix2 k h)) (fun h j => b (ix2 h j)) j := by
  unfold k0_pay7 k0_pay5 k0_pay6
  simp only [shapeCast_self]
  rw [truncf_apply]
  refine (Ideal.matmul_plain_apply (M := 2048) (K := 512) (N := 256) (φ₁ := .bf16) (φ₂ := .bf16) none _ _ _ r j).trans ?_
  rw [constant_apply, Ideal.ofBits_zero_f32, zero_add]
  refine Finset.sum_congr rfl fun h _ => congrArg (· * _) ?_
  rw [truncf_apply, maximumf_apply]
  refine congrArg₂ max ?_ Ideal.ofBits_zero_f32
  refine (Ideal.matmul_plain_apply (M := 2048) (K := 256) (N := 512) (φ₁ := .bf16) (φ₂ := .bf16) none _ _ _ r h).trans ?_
  rw [constant_apply, Ideal.ofBits_zero_f32, zero_add]

/-- A leading axis of one, added and taken away. -/
theorem upS_cast (v : Vec Ideal S2048x256 .bf16) : shapeCast S2048x256 (upS v) shapeCasts_S1x2048x256_S2048x256 = v :=
  funext fun i => congrArg v (Equiv.symm_apply_apply _ i)
theorem upB_cast (v : Vec Ideal S512x256 .bf16) : shapeCast S512x256 (upB v) shapeCasts_S1x512x256_S512x256 = v :=
  funext fun i => congrArg v (Equiv.symm_apply_apply _ i)

/-- Four slabs added, and four blocks. -/
theorem pay14_at (u v w t : Vec Ideal S2048x256 .bf16) (i : S2048x256.Idx) :
    k0_pay14 (k0_pay12 u (upS v)) (k0_pay13 (upS w)) (upS t) i = u i + v i + w i + t i := by
  unfold k0_pay12 k0_pay13 k0_pay14
  rw [shapeCast_self, upS_cast, upS_cast, upS_cast, truncf_apply, addf_apply, addf_apply, addf_apply, extf_apply, extf_apply, extf_apply, extf_apply]
theorem pay15_at (u v w t : Vec Ideal S512x256 .bf16) (i : S512x256.Idx) :
    k0_pay15 u (upB v) (upB w) (upB t) i = u i + v i + w i + t i := by
  unfold k0_pay15
  simp only [shapeCast_self]
  rw [upB_cast, upB_cast, upB_cast, truncf_apply, addf_apply, addf_apply, addf_apply, extf_apply, extf_apply, extf_apply, extf_apply]

section Layer

variable (A : Dev nD → Vec Ideal S256x512 .bf16) (B : Dev nD → Vec Ideal S512x256 .bf16) (b : Dev nD → Vec Ideal S512x256 .bf16)

/-- Device `s`'s part of row `i` of device `c`. -/
def part (c : Dev nD) (i : Fin 512) (j : Fin 256) (s : Dev nD) : EReal :=
  mlp (fun k => b c (ix2 i k)) (fun k h => A s (ix2 k h)) (fun h j => B s (ix2 h j)) j

theorem prodOf_at (s : Dev nD) (z q : Fin 4) (i : Fin 512) (j : Fin 256) (r : Fin 2048) (hr : r.val = 512 * z.val + i.val) :
    prodOf A B b s q (ix2 r j) = part A B b (dv z q) i j s := by
  unfold prodOf part
  rw [pay7_at]
  refine congrArg (fun u => mlp u _ _ j) (funext fun k => ?_)
  exact Rows.tall_at (k := 4) (n := 512) (N := 2048) rfl (fun z => b (dv z q)) z (ix2 i k) (ix2 r k) hr rfl

theorem place_peer2 (c : Dev nD) (e : Fin 3) : (pc (peer 2 c e)).val = ((pc c).val + e.val + 1) % 4 := by
  revert c e; decide +kernel
theorem plane_peer2 (c : Dev nD) (e : Fin 3) : dv (zc c) (pc (peer 2 c e)) = peer 2 c e := by
  revert c e; decide +kernel

/-- A plane's sum has the four devices of the plane in it. -/
theorem csumOf_at (c : Dev nD) (z : Fin 4) (i : Fin 512) (j : Fin 256) (r : Fin 2048) (hr : r.val = 512 * z.val + i.val) :
    csumOf A B b c (ix2 r j) = ∑ p, part A B b (dv z (pc c)) i j (dv (zc c) p) := by
  unfold csumOf
  rw [pay14_at, prodOf_at A B b _ z _ i j r hr, prodOf_at A B b _ z _ i j r hr, prodOf_at A B b _ z _ i j r hr, prodOf_at A B b _ z _ i j r hr]
  rw [← turn (fun p => part A B b (dv z (pc c)) i j (dv (zc c) p)) (pc c) (fun e => pc (peer 2 c e)) (place_peer2 c)]
  rw [dv_coords, plane_peer2, plane_peer2, plane_peer2]

theorem plane_peer3 (c : Dev nD) (e : Fin 3) : (zc (peer 3 c e)).val = ((zc c).val + e.val + 1) % 4 := by
  revert c e; decide +kernel
theorem place_peer3 (c : Dev nD) (e : Fin 3) : pc (peer 3 c e) = pc c := by
  revert c e; decide +kernel

theorem cpart_at (c d : Dev nD) (hd : pc d = pc c) (i : Fin 512) (j : Fin 256) :
    cpart (zc c) (csumOf A B b d) (ix2 i j) = ∑ p, part A B b c i j (dv (zc d) p) := by
  have h := csumOf_at A B b d (zc c) i j ⟨512 * (zc c).val + i.val, by omega⟩ rfl
  rw [hd, dv_coords] at h
  exact (congrArg (csumOf A B b d) (Rows.idx_ext rfl rfl)).trans h

/-- A device's next rows are its rows through every device's hidden units. -/
theorem nextOf_at (c : Dev nD) (i : Fin 512) (j : Fin 256) :
    nextOf A B b c (ix2 i j) = ∑ s : Dev nD, part A B b c i j s := by
  unfold nextOf
  rw [pay15_at, cpart_at A B b c c rfl, cpart_at A B b c _ (place_peer3 c 0), cpart_at A B b c _ (place_peer3 c 1), cpart_at A B b c _ (place_peer3 c 2)]
  rw [turn (fun z => ∑ p, part A B b c i j (dv z p)) (zc c) (fun e => zc (peer 3 c e)) (plane_peer3 c)]
  rw [← Fintype.sum_prod_type']
  exact Equiv.sum_comp (Equiv.mk (fun q : Fin 4 × Fin 4 => dv q.1 q.2) (fun d => (zc d, pc d)) (fun q => Prod.ext (zc_dv _ _) (pc_dv _ _)) dv_coords) _

end Layer

end Cert.KernelIdealProof

end
-- ==== Proof.Agree.lean ====
module

public import proofs.«01_k».proof.Proof.KernelIdealEnds
public import proofs.«01_k».proof.Proof.KernelIdealLayers
public import proofs.«01_k».proof.Proof.RefLayers
public import Idealize.ShloMosaic.Lib.Layout

/-! # The devices' rows are the reference's, layer by layer -/

@[expose] public section

noncomputable section

namespace Cert.Agree

open Cert.KernelIdeal Cert.KernelIdealProof
open Idealize.ShloMosaic Idealize.ShloMosaic.TcCoe Idealize.ShloMosaic.ValueIdx Idealize.SL.Sem
open Cert.Rows (R at2 tall)
open Cert.Layers
open Cert.RefLayers (layer layer_at rowsAt)
open scoped BigOperators

/-- Row (or column) `i` of device `c`'s block is this one of the whole. -/
abbrev wide (c : Dev nD) (i : Fin 512) : Fin 8192 := ⟨512 * c.val + i.val, by have : c.val < 16 := c.isLt; omega⟩

/-- A device's block of rows, and of columns. -/
theorem block_rows (v : (⟨2, ![8192, 256]⟩ : Shape).Idx → EReal) (c : Dev nD) (i : Fin 512) (j : Fin 256) :
    Layout.block ⟨2, ![512, 256]⟩ ⟨2, ![8192, 256]⟩ 0 16 c v (by decide) (ix2 i j) = v (ix2 (wide c i) j) :=
  congrArg v (funext fun a => Fin.ext (match a with
    | ⟨0, _⟩ => congrArg (· + i.val) (Nat.mul_comm c.val 512)
    | ⟨1, _⟩ => rfl))
theorem block_cols (v : (⟨2, ![256, 8192]⟩ : Shape).Idx → EReal) (c : Dev nD) (k : Fin 256) (i : Fin 512) :
    Layout.block ⟨2, ![256, 512]⟩ ⟨2, ![256, 8192]⟩ 1 16 c v (by decide) (ix2 k i) = v (ix2 k (wide c i)) :=
  congrArg v (funext fun a => Fin.ext (match a with
    | ⟨0, _⟩ => rfl
    | ⟨1, _⟩ => congrArg (· + i.val) (Nat.mul_comm c.val 512)))

/-- A layer keeps the devices' rows the reference's. -/
theorem step (A : Dev nD → Vec Ideal S256x512 .bf16) (B b : Dev nD → Vec Ideal S512x256 .bf16) (X : FVec Ideal ⟨2, ![8192, 256]⟩ .bf16)
    (WA : FVec Ideal ⟨2, ![256, 8192]⟩ .bf16) (WB : FVec Ideal ⟨2, ![8192, 256]⟩ .bf16)
    (hA : ∀ c, A c = Layout.block ⟨2, ![256, 512]⟩ ⟨2, ![256, 8192]⟩ 1 16 c WA) (hB : ∀ c, B c = Layout.block ⟨2, ![512, 256]⟩ ⟨2, ![8192, 256]⟩ 0 16 c WB)
    (hb : ∀ c i k, b c (ix2 i k) = X (ix2 (wide c i) k)) (c : Dev nD) (i : Fin 512) (j : Fin 256) :
    nextOf A B b c (ix2 i j) = layer X WA WB (ix2 (wide c i) j) := by
  rw [nextOf_at, layer_at, mlp_groups]
  refine Finset.sum_congr rfl fun s _ => ?_
  unfold part
  have e1 : (fun k => b c (ix2 i k)) = fun k => X (ix2 (wide c i) k) := funext (hb c i)
  have e2 : (fun k h => A s (ix2 k h)) = fun (k : Fin 256) (h : Fin 512) => WA (ix2 k (wide s h)) :=
    funext fun k => funext fun h => (congrFun (hA s) _).trans (block_cols WA s k h)
  have e3 : (fun h j => B s (ix2 h j)) = fun (h : Fin 512) (j : Fin 256) => WB (ix2 (wide s h) j) :=
    funext fun h => funext fun j => (congrFun (hB s) _).trans (block_rows WB s h j)
  rw [e1, e2, e3]

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- What the reference's array holds. -/
abbrev whole (b : Ref Cert.ReferenceIdeal.sig .tc) : Buf (Elt Ideal) (((0 : Dev Cert.ReferenceIdeal.nD).tc : Thread Cert.ReferenceIdeal.nD Cert.ReferenceIdeal.τ).loc b) :=
  m' (((0 : Dev Cert.ReferenceIdeal.nD).tc : Thread Cert.ReferenceIdeal.nD Cert.ReferenceIdeal.τ).loc b)

/-- The devices hold their parts of the reference's arrays. -/
structure Cut : Prop where
  x : ∀ c : Dev nD, m ((c.tc : Thread nD τ).loc main_arg0) = Layout.block ⟨2, ![512, 256]⟩ ⟨2, ![8192, 256]⟩ 0 16 c (whole m' Cert.ReferenceIdeal.main_arg0)
  i0 : ∀ c : Dev nD, m ((c.tc : Thread nD τ).loc main_arg1) = Layout.block ⟨2, ![256, 512]⟩ ⟨2, ![256, 8192]⟩ 1 16 c (whole m' Cert.ReferenceIdeal.main_arg1)
  i1 : ∀ c : Dev nD, m ((c.tc : Thread nD τ).loc main_arg2) = Layout.block ⟨2, ![256, 512]⟩ ⟨2, ![256, 8192]⟩ 1 16 c (whole m' Cert.ReferenceIdeal.main_arg2)
  i2 : ∀ c : Dev nD, m ((c.tc : Thread nD τ).loc main_arg3) = Layout.block ⟨2, ![256, 512]⟩ ⟨2, ![256, 8192]⟩ 1 16 c (whole m' Cert.ReferenceIdeal.main_arg3)
  o0 : ∀ c : Dev nD, m ((c.tc : Thread nD τ).loc main_arg4) = Layout.block ⟨2, ![512, 256]⟩ ⟨2, ![8192, 256]⟩ 0 16 c (whole m' Cert.ReferenceIdeal.main_arg4)
  o1 : ∀ c : Dev nD, m ((c.tc : Thread nD τ).loc main_arg5) = Layout.block ⟨2, ![512, 256]⟩ ⟨2, ![8192, 256]⟩ 0 16 c (whole m' Cert.ReferenceIdeal.main_arg5)
  o2 : ∀ c : Dev nD, m ((c.tc : Thread nD τ).loc main_arg6) = Layout.block ⟨2, ![512, 256]⟩ ⟨2, ![8192, 256]⟩ 0 16 c (whole m' Cert.ReferenceIdeal.main_arg6)

variable {m m'}

theorem rows0 (h : Cut m m') (c : Dev nD) (i : Fin 512) (j : Fin 256) : blk (ins m ρ) 0 c (ix2 i j) = rowsAt m' 0 (ix2 (wide c i) j) := by
  have e : blk (ins m ρ) 0 c = m ((c.tc : Thread nD τ).loc main_arg0) := by
    show Cert.KernelIdeal.Gen.k0_pay4 ((ins m ρ).x c) = _
    unfold Cert.KernelIdeal.Gen.k0_pay4
    simp only [shapeCast_self]
    exact ins_x m ρ c
  exact (congrFun (e.trans (h.x c)) _).trans (block_rows _ c i j)
theorem rows1 (h : Cut m m') (c : Dev nD) (i : Fin 512) (j : Fin 256) : blk (ins m ρ) 1 c (ix2 i j) = rowsAt m' 1 (ix2 (wide c i) j) :=
  step _ _ _ _ _ _ (fun c => (ins_wi0 m ρ c).trans (h.i0 c)) (fun c => (ins_wo0 m ρ c).trans (h.o0 c)) (rows0 ρ h) c i j
theorem rows2 (h : Cut m m') (c : Dev nD) (i : Fin 512) (j : Fin 256) : blk (ins m ρ) 2 c (ix2 i j) = rowsAt m' 2 (ix2 (wide c i) j) :=
  step _ _ _ _ _ _ (fun c => (ins_wi1 m ρ c).trans (h.i1 c)) (fun c => (ins_wo1 m ρ c).trans (h.o1 c)) (rows1 ρ h) c i j
theorem rows3 (h : Cut m m') (c : Dev nD) (i : Fin 512) (j : Fin 256) : blk (ins m ρ) 3 c (ix2 i j) = rowsAt m' 3 (ix2 (wide c i) j) :=
  step _ _ _ _ _ _ (fun c => (ins_wi2 m ρ c).trans (h.i2 c)) (fun c => (ins_wo2 m ρ c).trans (h.o2 c)) (rows2 ρ h) c i j

/-- The kernel's result is the reference's. -/
theorem result_eq (h : Cut m m') : result (ins m ρ) = (extf .f32 (rowsAt m' 3) Cert.ReferenceIdeal.Gen.bitsLt_bf16_f32 : FVec Ideal ⟨2, ![8192, 256]⟩ .f32) := by
  funext i
  have hi : (i 0).val < 8192 := (i 0).isLt
  have ht := Rows.tall_at (k := 16) (n := 512) (N := 8192) rfl (fun b => Cert.KernelIdeal.Gen.k0_pay38 (blk (ins m ρ) 3 b)) (⟨(i 0).val / 512, by omega⟩ : Fin 16)
    (ix2 (⟨(i 0).val % 512, Nat.mod_lt _ (by decide)⟩ : Fin 512) (i 1)) i (Nat.div_add_mod _ _).symm rfl
  refine ht.trans ((rows3 ρ h (⟨(i 0).val / 512, by omega⟩ : Fin 16) _ (i 1)).trans (congrArg (rowsAt m' 3) (Rows.idx_ext (Nat.div_add_mod _ _) rfl)))

end Cert.Agree

end
-- ==== Proof.lean ====
module

public import proofs.«01_k».proof.Defs
public import proofs.«01_k».proof.Proof.KernelEnds
public import proofs.«01_k».proof.Proof.KernelIdealEnds
public import proofs.«01_k».proof.Proof.RefLayers
public import proofs.«01_k».proof.Proof.Agree
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

/-! # The kernel's claims

Every device of the mesh finishes with its arguments as they were and every semaphore at zero, for the kernel as it
stands and for its exact reading; the reference finishes likewise; and in exact arithmetic every device's result is the
reference's. -/

@[expose] public section

noncomputable section

namespace Cert.Proof

open Idealize.ShloMosaic Idealize.SL.Sem Cert.Kernel

/-- The kernel, with its rounding, runs to its end on every device and leaves arguments and counters as it should. -/
theorem kernel_frame : Cert.quiescent_Kernel := fun m g _ =>
  (θ_run _ _ _).mono (fun _ h => ⟨fun c => (h.1 c).2, h.2⟩) (Cert.KernelProof.ends m g)

/-- So does the kernel over the extended reals. -/
theorem kernelIdeal_frame : Cert.quiescent_KernelIdeal := fun m g _ =>
  (θ_run _ _ _).mono (fun _ h => ⟨fun c => (h.1 c).2, h.2⟩) (Cert.KernelIdealProof.ends m g)

/-- So does the reference. -/
theorem reference_frame : Cert.quiescent_ReferenceIdeal := fun m g _ =>
  (θ_run _ _ _).mono (fun _ h => h.2) (Cert.RefLayers.ends m g)

/-- Given the blocks of the reference's arguments, every device of the kernel ends with the reference's whole result. -/
theorem same_result : Cert.algebraic_KernelIdeal_ReferenceIdeal := fun m g m' g' _ hcut => by
  have hc : Cert.Agree.Cut m m' := ⟨fun c => (hcut c).1, fun c => (hcut c).2.1, fun c => (hcut c).2.2.1, fun c => (hcut c).2.2.2.1,
    fun c => (hcut c).2.2.2.2.1, fun c => (hcut c).2.2.2.2.2.1, fun c => (hcut c).2.2.2.2.2.2⟩
  exact ⟨_, (θ_run _ _ _).mono (fun _ h c => ⟨(h.1 c).1.trans (Cert.Agree.result_eq g hc), (h.1 c).2⟩) (Cert.KernelIdealProof.ends m g),
    (θ_run _ _ _).mono (fun _ h => ⟨h.1, h.2.1 0⟩) (Cert.RefLayers.ends m' g')⟩

/-- All the claims together. -/
theorem claim : Cert.Claim := ⟨Cert.Kernel.Gen.facts, Cert.KernelIdeal.Gen.facts, Cert.ReferenceIdeal.Gen.facts,
  kernel_frame, kernelIdeal_frame, reference_frame, trivial, same_result⟩

end Cert.Proof

end
